-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1x256 : Shape := ⟨2, ![1, 256]⟩
abbrev S8x256 : Shape := ⟨2, ![8, 256]⟩
abbrev S7 : Shape := ⟨1, ![7]⟩
abbrev S_ : Shape := ⟨0, ![]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S4x256 : Shape := ⟨2, ![4, 256]⟩
abbrev S2x256 : Shape := ⟨2, ![2, 256]⟩
abbrev S1 : Shape := ⟨1, ![1]⟩
abbrev S255x256 : Shape := ⟨2, ![255, 256]⟩
abbrev S254x256 : Shape := ⟨2, ![254, 256]⟩
abbrev S252x256 : Shape := ⟨2, ![252, 256]⟩
abbrev S248x256 : Shape := ⟨2, ![248, 256]⟩
abbrev S240x256 : Shape := ⟨2, ![240, 256]⟩
abbrev S224x256 : Shape := ⟨2, ![224, 256]⟩
abbrev S192x256 : Shape := ⟨2, ![192, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .bf16⟩
  | .hbm, ⟨1, _⟩ => ⟨S256x256, .f32⟩
  | .local _ .vmem, ⟨0, _⟩ => ⟨S256x256, .bf16⟩
  | .local _ .vmem, ⟨1, _⟩ => ⟨S256x256, .f32⟩
  | .local _ .vmem, ⟨2, _⟩ => ⟨S1x256, .f32⟩
  | .local _ .vmem, ⟨3, _⟩ => ⟨S8x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.subi v2 c1_i32_0
  let c0_i32 : BitVec 32 := 0#32
  let v5 : BitVec 1 := Scalar.cmpi .sge v4 c0_i32
  let v6 : BitVec 32 := Scalar.extui v5
  let c0_i32_1 : BitVec 32 := 0#32
  let v7 : BitVec 1 := Scalar.cmpi .ne v6 c0_i32_1
  v7

def k0_dev1 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_132 : BitVec 32 := 1#32
  let v245 : BitVec 32 := Scalar.subi v2 c1_i32_132
  let c1_i32_134 : BitVec 32 := 1#32
  let v246 : BitVec 32 := Scalar.muli v245 c1_i32_134
  let v247 : BitVec 32 := Scalar.addi c0_i32_135 v246
  v247.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.subi v2 c2_i32
  let c0_i32_2 : BitVec 32 := 0#32
  let v9 : BitVec 1 := Scalar.cmpi .sge v8 c0_i32_2
  let v10 : BitVec 32 := Scalar.extui v9
  let c0_i32_3 : BitVec 32 := 0#32
  let v11 : BitVec 1 := Scalar.cmpi .ne v10 c0_i32_3
  v11

def k0_dev2 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_132 : BitVec 32 := 2#32
  let v245 : BitVec 32 := Scalar.subi v2 c2_i32_132
  let c1_i32_134 : BitVec 32 := 1#32
  let v246 : BitVec 32 := Scalar.muli v245 c1_i32_134
  let v247 : BitVec 32 := Scalar.addi c0_i32_135 v246
  v247.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.subi v2 c3_i32
  let c0_i32_4 : BitVec 32 := 0#32
  let v13 : BitVec 1 := Scalar.cmpi .sge v12 c0_i32_4
  let v14 : BitVec 32 := Scalar.extui v13
  let c0_i32_5 : BitVec 32 := 0#32
  let v15 : BitVec 1 := Scalar.cmpi .ne v14 c0_i32_5
  v15

def k0_dev3 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v245 : BitVec 32 := Scalar.subi v2 c3_i32_132
  let c1_i32_134 : BitVec 32 := 1#32
  let v246 : BitVec 32 := Scalar.muli v245 c1_i32_134
  let v247 : BitVec 32 := Scalar.addi c0_i32_135 v246
  v247.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.subi v2 c4_i32
  let c0_i32_6 : BitVec 32 := 0#32
  let v17 : BitVec 1 := Scalar.cmpi .sge v16 c0_i32_6
  let v18 : BitVec 32 := Scalar.extui v17
  let c0_i32_7 : BitVec 32 := 0#32
  let v19 : BitVec 1 := Scalar.cmpi .ne v18 c0_i32_7
  v19

def k0_dev4 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_132 : BitVec 32 := 4#32
  let v245 : BitVec 32 := Scalar.subi v2 c4_i32_132
  let c1_i32_134 : BitVec 32 := 1#32
  let v246 : BitVec 32 := Scalar.muli v245 c1_i32_134
  let v247 : BitVec 32 := Scalar.addi c0_i32_135 v246
  v247.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.subi v2 c5_i32
  let c0_i32_8 : BitVec 32 := 0#32
  let v21 : BitVec 1 := Scalar.cmpi .sge v20 c0_i32_8
  let v22 : BitVec 32 := Scalar.extui v21
  let c0_i32_9 : BitVec 32 := 0#32
  let v23 : BitVec 1 := Scalar.cmpi .ne v22 c0_i32_9
  v23

def k0_dev5 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_132 : BitVec 32 := 5#32
  let v245 : BitVec 32 := Scalar.subi v2 c5_i32_132
  let c1_i32_134 : BitVec 32 := 1#32
  let v246 : BitVec 32 := Scalar.muli v245 c1_i32_134
  let v247 : BitVec 32 := Scalar.addi c0_i32_135 v246
  v247.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.subi v2 c6_i32
  let c0_i32_10 : BitVec 32 := 0#32
  let v25 : BitVec 1 := Scalar.cmpi .sge v24 c0_i32_10
  let v26 : BitVec 32 := Scalar.extui v25
  let c0_i32_11 : BitVec 32 := 0#32
  let v27 : BitVec 1 := Scalar.cmpi .ne v26 c0_i32_11
  v27

def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v245 : BitVec 32 := Scalar.subi v2 c6_i32_132
  let c1_i32_134 : BitVec 32 := 1#32
  let v246 : BitVec 32 := Scalar.muli v245 c1_i32_134
  let v247 : BitVec 32 := Scalar.addi c0_i32_135 v246
  v247.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.subi v2 c7_i32
  let c0_i32_12 : BitVec 32 := 0#32
  let v29 : BitVec 1 := Scalar.cmpi .sge v28 c0_i32_12
  let v30 : BitVec 32 := Scalar.extui v29
  let c0_i32_13 : BitVec 32 := 0#32
  let v31 : BitVec 1 := Scalar.cmpi .ne v30 c0_i32_13
  v31

def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_132 : BitVec 32 := 7#32
  let v245 : BitVec 32 := Scalar.subi v2 c7_i32_132
  let c1_i32_134 : BitVec 32 := 1#32
  let v246 : BitVec 32 := Scalar.muli v245 c1_i32_134
  let v247 : BitVec 32 := Scalar.addi c0_i32_135 v246
  v247.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v90 : BitVec 32 := Scalar.addi v2 c1_i32_38
  let c8_i32_39 : BitVec 32 := 8#32
  let v91 : BitVec 1 := Scalar.cmpi .slt v90 c8_i32_39
  let v92 : BitVec 32 := Scalar.extui v91
  let c0_i32_40 : BitVec 32 := 0#32
  let v93 : BitVec 1 := Scalar.cmpi .ne v92 c0_i32_40
  v93

def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_132 : BitVec 32 := 1#32
  let v245 : BitVec 32 := Scalar.addi v2 c1_i32_132
  let c1_i32_135 : BitVec 32 := 1#32
  let v246 : BitVec 32 := Scalar.muli v245 c1_i32_135
  let v247 : BitVec 32 := Scalar.addi c0_i32_136 v246
  v247.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_41 : BitVec 32 := 2#32
  let v94 : BitVec 32 := Scalar.addi v2 c2_i32_41
  let c8_i32_42 : BitVec 32 := 8#32
  let v95 : BitVec 1 := Scalar.cmpi .slt v94 c8_i32_42
  let v96 : BitVec 32 := Scalar.extui v95
  let c0_i32_43 : BitVec 32 := 0#32
  let v97 : BitVec 1 := Scalar.cmpi .ne v96 c0_i32_43
  v97

def k0_dev9 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_132 : BitVec 32 := 2#32
  let v245 : BitVec 32 := Scalar.addi v2 c2_i32_132
  let c1_i32_135 : BitVec 32 := 1#32
  let v246 : BitVec 32 := Scalar.muli v245 c1_i32_135
  let v247 : BitVec 32 := Scalar.addi c0_i32_136 v246
  v247.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_44 : BitVec 32 := 3#32
  let v98 : BitVec 32 := Scalar.addi v2 c3_i32_44
  let c8_i32_45 : BitVec 32 := 8#32
  let v99 : BitVec 1 := Scalar.cmpi .slt v98 c8_i32_45
  let v100 : BitVec 32 := Scalar.extui v99
  let c0_i32_46 : BitVec 32 := 0#32
  let v101 : BitVec 1 := Scalar.cmpi .ne v100 c0_i32_46
  v101

def k0_dev10 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v245 : BitVec 32 := Scalar.addi v2 c3_i32_132
  let c1_i32_135 : BitVec 32 := 1#32
  let v246 : BitVec 32 := Scalar.muli v245 c1_i32_135
  let v247 : BitVec 32 := Scalar.addi c0_i32_136 v246
  v247.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v102 : BitVec 32 := Scalar.addi v2 c4_i32_47
  let c8_i32_48 : BitVec 32 := 8#32
  let v103 : BitVec 1 := Scalar.cmpi .slt v102 c8_i32_48
  let v104 : BitVec 32 := Scalar.extui v103
  let c0_i32_49 : BitVec 32 := 0#32
  let v105 : BitVec 1 := Scalar.cmpi .ne v104 c0_i32_49
  v105

def k0_dev11 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_132 : BitVec 32 := 4#32
  let v245 : BitVec 32 := Scalar.addi v2 c4_i32_132
  let c1_i32_135 : BitVec 32 := 1#32
  let v246 : BitVec 32 := Scalar.muli v245 c1_i32_135
  let v247 : BitVec 32 := Scalar.addi c0_i32_136 v246
  v247.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_50 : BitVec 32 := 5#32
  let v106 : BitVec 32 := Scalar.addi v2 c5_i32_50
  let c8_i32_51 : BitVec 32 := 8#32
  let v107 : BitVec 1 := Scalar.cmpi .slt v106 c8_i32_51
  let v108 : BitVec 32 := Scalar.extui v107
  let c0_i32_52 : BitVec 32 := 0#32
  let v109 : BitVec 1 := Scalar.cmpi .ne v108 c0_i32_52
  v109

def k0_dev12 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_132 : BitVec 32 := 5#32
  let v245 : BitVec 32 := Scalar.addi v2 c5_i32_132
  let c1_i32_135 : BitVec 32 := 1#32
  let v246 : BitVec 32 := Scalar.muli v245 c1_i32_135
  let v247 : BitVec 32 := Scalar.addi c0_i32_136 v246
  v247.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v110 : BitVec 32 := Scalar.addi v2 c6_i32_53
  let c8_i32_54 : BitVec 32 := 8#32
  let v111 : BitVec 1 := Scalar.cmpi .slt v110 c8_i32_54
  let v112 : BitVec 32 := Scalar.extui v111
  let c0_i32_55 : BitVec 32 := 0#32
  let v113 : BitVec 1 := Scalar.cmpi .ne v112 c0_i32_55
  v113

def k0_dev13 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v245 : BitVec 32 := Scalar.addi v2 c6_i32_132
  let c1_i32_135 : BitVec 32 := 1#32
  let v246 : BitVec 32 := Scalar.muli v245 c1_i32_135
  let v247 : BitVec 32 := Scalar.addi c0_i32_136 v246
  v247.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_56 : BitVec 32 := 7#32
  let v114 : BitVec 32 := Scalar.addi v2 c7_i32_56
  let c8_i32_57 : BitVec 32 := 8#32
  let v115 : BitVec 1 := Scalar.cmpi .slt v114 c8_i32_57
  let v116 : BitVec 32 := Scalar.extui v115
  let c0_i32_58 : BitVec 32 := 0#32
  let v117 : BitVec 1 := Scalar.cmpi .ne v116 c0_i32_58
  v117

def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_132 : BitVec 32 := 7#32
  let v245 : BitVec 32 := Scalar.addi v2 c7_i32_132
  let c1_i32_135 : BitVec 32 := 1#32
  let v246 : BitVec 32 := Scalar.muli v245 c1_i32_135
  let v247 : BitVec 32 := Scalar.addi c0_i32_136 v246
  v247.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x256, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S2048x256, .f32⟩
  | .hbm, ⟨6, _⟩ => ⟨S_, .i32⟩
  | .hbm, ⟨7, _⟩ => ⟨S2048x256, .f32⟩
  | .hbm, ⟨8, _⟩ => ⟨S_, .i32⟩
  | .hbm, ⟨9, _⟩ => ⟨S256, .f32⟩
  | .hbm, ⟨10, _⟩ => ⟨S2048x256, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S_, .i32⟩
  | .hbm, ⟨19, _⟩ => ⟨S2048x256, .f32⟩
  | .hbm, ⟨20, _⟩ => ⟨S_, .i32⟩
  | .hbm, ⟨21, _⟩ => ⟨S_, .i32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v4 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v4 : Ref sig .tc := ⟨.hbm, 15, rfl⟩
abbrev main_while0b_v5 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v6 : Ref sig .tc := ⟨.hbm, 19, rfl⟩
abbrev main_while0b_c_4 : Ref sig .tc := ⟨.hbm, 20, rfl⟩
abbrev main_while0b_v7 : Ref sig .tc := ⟨.hbm, 21, rfl⟩

abbrev nD : Nat := 1
abbrev τ : Topo := Topo.v7x

variable {F : FTy → Type} [FloatOps F]

abbrev main_while0_count : Scf.Loop 32 := ⟨0#32, 2048#32, 1#32⟩
-- ==== Proof.ScanI.lean ====
/-
  The protocol of the sharded running product, one kernel on each of eight devices.

  Write `up d c` and `dn d c` for the devices `d + 1` places after and before device `c` around the mesh. Device `c`
  tells each earlier device `dn d c` that row `d + 1` of its receive buffer may be written, multiplies its block's rows
  together, sends that one row of totals to every later device `up d c`, and waits for the totals of the earlier ones.
  Whether a device has a neighbour at a distance is decided at run time from its own number, so every resource below is
  indexed by the distance and is empty where there is no neighbour.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Ring
public import Idealize.ShloMosaic.Lib.Transfers
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

/-- The protocol's ghost state: rounds over the devices' semaphores, a duty named by the distance it serves. -/
abbrev UB : Type := URounds (GSem nD τ sig) (Fin 7)
/-- The staging pipeline's ghost state beside it. -/
abbrev UU : Type := UR sig nD τ × UB

local notation "𝕄" => MT nD τ sig Unit (Elt F) ℕ UU ℕ

/-- The pipeline's ghost state inside the whole. -/
abbrev EP : Emb (UR sig nD τ) (MT nD τ sig Unit (Elt F) ℕ UU ℕ) := embL
/-- The protocol's ghost state inside the whole. -/
abbrev ER : Emb UB (MT nD τ sig Unit (Elt F) ℕ UU ℕ) := embR

variable (m : (ℓ : Loc nD τ sig) → Buf (Elt F) ℓ) (ρ : Dev nD → PrngReg)

/-! ## Neighbours at a distance -/

set_option backward.proofsInPublic true in
/-- The device `d + 1` places after `c`, around the mesh. -/
def up (d : Fin 7) (c : Dev nD) : Dev nD := ⟨(c.val + (d.val + 1)) % 8, Nat.mod_lt _ (by decide)⟩
set_option backward.proofsInPublic true in
/-- The device `d + 1` places before `c`, around the mesh. -/
def dn (d : Fin 7) (c : Dev nD) : Dev nD := ⟨(c.val + (7 - d.val)) % 8, Nat.mod_lt _ (by decide)⟩

/-- Device `c` has a later device at this distance: it sends there. -/
abbrev has (d : Fin 7) (c : Dev nD) : Prop := c.val + (d.val + 1) < 8
/-- Device `c` has an earlier device at this distance: it receives from there. -/
abbrev got (d : Fin 7) (c : Dev nD) : Prop := d.val + 1 ≤ c.val

/-- Back and then forth by the same distance is no move. -/
theorem up_dn (d : Fin 7) (c : Dev nD) : up d (dn d c) = c := by revert d c; decide
/-- Forth and then back by the same distance is no move. -/
theorem dn_up (d : Fin 7) (c : Dev nD) : dn d (up d c) = c := by revert d c; decide
/-- The device at a distance before `c` sends there exactly when `c` receives. -/
theorem has_dn (d : Fin 7) (c : Dev nD) : has d (dn d c) ↔ got d c := by revert d c; decide
/-- The device at a distance after `c` receives exactly when `c` sends there. -/
theorem got_up (d : Fin 7) (c : Dev nD) : got d (up d c) ↔ has d c := by revert d c; decide

/-- Stepping back by the same distance, device and distance together. -/
def around : Dev nD × Fin 7 ≃ Dev nD × Fin 7 where
  toFun p := (dn p.2 p.1, p.2)
  invFun p := (up p.2 p.1, p.2)
  left_inv p := Prod.ext (up_dn p.2 p.1) rfl
  right_inv p := Prod.ext (dn_up p.2 p.1) rfl

/-! ## Buffers and semaphores -/

/-- The staged argument. -/
abbrev xM : Memref sig .tc .vmem S256x256 .bf16 := Memref.whole cc0_stg0_0
/-- The staged result. -/
abbrev oM : Memref sig .tc .vmem S256x256 .f32 := Memref.whole cc0_stg1_0
/-- The buffer of the device's own totals. -/
abbrev wM : Memref sig .tc .vmem S1x256 .f32 := Memref.whole cc0_scratch0
/-- The receive buffer. -/
abbrev vM : Memref sig .tc .vmem S8x256 .f32 := Memref.whole cc0_scratch1

/-- A start at the origin. -/
theorem hz : (![0, 0] : Fin 2 → Nat) = fun _ => 0 := funext fun a => by fin_cases a <;> rfl

/-- Row `d + 1` lies in the receive buffer. -/
theorem row_inb (d : Fin 7) : ∀ a : Fin 2, (![d.val + 1, 0] : Fin 2 → ℕ) a + S1x256.size a ≤ S8x256.size a := by
  revert d; decide

/-- Row `d + 1` of the receive buffer, as a rectangle. -/
abbrev rowR (d : Fin 7) : Rect S8x256 := Rect.unit (s := S8x256) ![d.val + 1, 0] S1x256.size (row_inb d)
/-- Row `d + 1` of the receive buffer, as a reference. -/
abbrev rowM (d : Fin 7) : Memref sig .tc .vmem S1x256 .f32 := vM.slice (rowR d) (fun _ => rfl)
/-- The buffer of the device's own totals, as the transfers name it. -/
abbrev totM : Memref sig .tc .vmem S1x256 .f32 :=
  wM.slice (Rect.unit (s := S1x256) ![0, 0] S1x256.size inb_S1x256_S1x256_0_0) (fun _ => rfl)

/-- The barrier semaphore. -/
abbrev barS : Sem sig := (SemArray.scalar (sig.barrier 0 rfl) : Sems sig S_).sem
set_option backward.proofsInPublic true in
/-- The semaphore counting the send at distance `d + 1`. -/
def sendS (d : Fin 7) : DmaSem sig := ⟨d.val + 2, by have := d.isLt; show d.val + 2 < 16; omega⟩
set_option backward.proofsInPublic true in
/-- The semaphore counting the arrival from distance `d + 1`. -/
def recvS (d : Fin 7) : DmaSem sig := ⟨d.val + 9, by have := d.isLt; show d.val + 9 < 16; omega⟩

/-- Semaphore `d` lies in an array of seven. -/
theorem sem_inb (d : Fin 7) : ∀ a : Fin 1, (![d.val] : Fin 1 → ℕ) a + S1.size a ≤ S7.size a := by
  revert d; decide
/-- One semaphore of an array of seven, as the kernel takes it. -/
abbrev semAt (a : DmaSems sig S7) (d : Fin 7) : DmaSem sig :=
  ((a.slice (Rect.unit (s := S7) ![d.val] S1.size (sem_inb d))).squeeze S_ squeezes_S1_S_).sem
/-- Member `d` of the first array counts the send at distance `d + 1`. -/
theorem semAt_send (d : Fin 7) : semAt cc0_scratch2 d = sendS d := by revert d; decide
/-- Member `d` of the second array counts the arrival from distance `d + 1`. -/
theorem semAt_recv (d : Fin 7) : semAt cc0_scratch3 d = recvS d := by revert d; decide

/-- The kinds of cell a device has: its barrier, its sends and its arrivals. -/
abbrev Kd : Type := Unit ⊕ (Fin 7 ⊕ Fin 7)

/-- The semaphore of each kind. -/
abbrev csem : Kd → SemLoc sig
  | .inl _ => .reg barS
  | .inr (.inl d) => .dma (sendS d)
  | .inr (.inr d) => .dma (recvS d)

/-- The kind of a semaphore, if it is one of the protocol's. -/
def dec (s : SemLoc sig) : Option Kd :=
  if s = .reg barS then some (.inl ())
  else if s = .dma (sendS 0) then some (.inr (.inl 0)) else if s = .dma (sendS 1) then some (.inr (.inl 1))
  else if s = .dma (sendS 2) then some (.inr (.inl 2)) else if s = .dma (sendS 3) then some (.inr (.inl 3))
  else if s = .dma (sendS 4) then some (.inr (.inl 4)) else if s = .dma (sendS 5) then some (.inr (.inl 5))
  else if s = .dma (sendS 6) then some (.inr (.inl 6))
  else if s = .dma (recvS 0) then some (.inr (.inr 0)) else if s = .dma (recvS 1) then some (.inr (.inr 1))
  else if s = .dma (recvS 2) then some (.inr (.inr 2)) else if s = .dma (recvS 3) then some (.inr (.inr 3))
  else if s = .dma (recvS 4) then some (.inr (.inr 4)) else if s = .dma (recvS 5) then some (.inr (.inr 5))
  else if s = .dma (recvS 6) then some (.inr (.inr 6)) else none

/-- The kind of a cell is read back from its semaphore. -/
theorem dec_csem (k : Kd) : dec (csem k) = some k := by revert k; decide

/-- The cell of a kind on a device. -/
abbrev kcell (ck : Dev nD × Kd) : GSem nD τ sig := ((ck.1 : Thread nD τ), csem ck.2)
/-- Device `c`'s barrier. -/
abbrev barCell (c : Dev nD) : GSem nD τ sig := ((c : Thread nD τ), .reg barS)
/-- Device `c`'s cell for its send at distance `d + 1`. -/
abbrev sendCell (d : Fin 7) (c : Dev nD) : GSem nD τ sig := ((c : Thread nD τ), .dma (sendS d))
/-- Device `c`'s cell for the arrival from distance `d + 1`. -/
abbrev recvCell (d : Fin 7) (c : Dev nD) : GSem nD τ sig := ((c : Thread nD τ), .dma (recvS d))

/-- Different kinds have different semaphores. -/
theorem csem_injective : Function.Injective csem := fun a b h => by
  have := congrArg dec h
  rwa [dec_csem, dec_csem, Option.some.injEq] at this

/-- Different devices or kinds have different cells. -/
theorem kcell_injective : Function.Injective (kcell : Dev nD × Kd → GSem nD τ sig) := by
  rintro ⟨c, k⟩ ⟨c', k'⟩ h
  exact Prod.ext (congrArg (fun g : GSem nD τ sig => g.1.1) h) (csem_injective (congrArg Prod.snd h))

/-- Two cells are equal exactly when their devices and kinds are. -/
theorem kcell_eq_iff (c c' : Dev nD) (k k' : Kd) : kcell (c, k) = kcell (c', k') ↔ c = c' ∧ k = k' :=
  kcell_injective.eq_iff.trans (by rw [Prod.mk.injEq])

/-- What a transfer of one row of totals adds to a semaphore. -/
abbrev N : ℕ := (rowM 0).view.dmaCredit
/-- A transfer adds something. -/
theorem N_pos : 0 < N := View.dmaCredit_pos _ (by decide)

/-! ## Contents -/

/-- Device `c`'s block of the argument, as its staging buffer holds it. -/
def xstg (c : Dev nD) : (cc0_stg0_0 : Ref sig .tc).ty.Contents (Elt F) :=
  (win0_0.blk (0 : Fin 1)).view.read (Elt F) (m ((c : Thread nD τ).loc main_arg0))

/-- The products of device `c`'s block down its rows: what it sends. -/
def tot (c : Dev nD) : (cc0_scratch0 : Ref sig .tc).ty.Contents (Elt F) := k0_pay2 (xstg m c)

/-- Row `d + 1` of device `c`'s receive buffer, held outright at contents `f`. -/
def rowPts (d : Fin 7) (c : Dev nD) (f : Buf (Elt F) ((rowM d).view.loc (c : Thread nD τ))) : sProp 𝕄 :=
  (rowM d).view.loc (c : Thread nD τ) ↦[(rowM d).view.set]{fullShare} f
/-- That row at some contents. -/
def rowAny (d : Fin 7) (c : Dev nD) : sProp 𝕄 := iprop(∃ f, rowPts d c f)
/-- That row with the totals of the device `d + 1` places before landed in it. -/
def rowLanded (d : Fin 7) (c : Dev nD) : sProp 𝕄 :=
  iprop(∃ f, ⌜(rowM d).view.read (Elt F) f = tot m (dn d c)⌝ ∗ rowPts d c f)
/-- A share of device `c`'s own totals. -/
def totPts (q : PosShare TreeShare) (c : Dev nD) : sProp 𝕄 :=
  totM.view.loc (c : Thread nD τ) ↦[totM.view.set]{q} tot m c
/-- The share of them lent to the transfer at distance `d + 1`. -/
abbrev piece (d : Fin 7) : PosShare TreeShare := shareTok fullShare 7 d

/-- A held row may be put into an invariant. -/
instance rowPts_storable (d : Fin 7) (c : Dev nD) (f) : BI.Storable (upEmb : UEmb _ 𝕄) (rowPts (F := F) d c f) := by
  unfold rowPts; infer_instance
/-- So may a row at some contents. -/
instance rowAny_storable (d : Fin 7) (c : Dev nD) : BI.Storable (upEmb : UEmb _ 𝕄) (rowAny (F := F) d c) := by
  unfold rowAny; infer_instance
/-- So may a row with totals landed in it. -/
instance rowLanded_storable (d : Fin 7) (c : Dev nD) : BI.Storable (upEmb : UEmb _ 𝕄) (rowLanded m d c) := by
  unfold rowLanded; infer_instance
/-- So may a share of the totals. -/
instance totPts_storable (q : PosShare TreeShare) (c : Dev nD) : BI.Storable (upEmb : UEmb _ 𝕄) (totPts m q c) := by
  unfold totPts; infer_instance

/-! ## The schedule: one round, the duties there where a neighbour is -/

/-- The duties of a cell: the barrier has one from every later device, a send or an arrival its own distance's. -/
def dutySet (c : Dev nD) : Kd → Finset (Fin 7)
  | .inl _ => Finset.univ.filter (has · c)
  | .inr (.inl d) => if has d c then {d} else ∅
  | .inr (.inr d) => if got d c then {d} else ∅

/-- A send has its one duty if there is a device to send to. -/
theorem dutySet_send (c : Dev nD) (d : Fin 7) : dutySet c (.inr (.inl d)) = if has d c then {d} else ∅ := rfl
/-- An arrival has its one duty if there is a device to come from. -/
theorem dutySet_recv (c : Dev nD) (d : Fin 7) : dutySet c (.inr (.inr d)) = if got d c then {d} else ∅ := rfl

/-- What a duty counts for. -/
def amt : Kd → ℕ
  | .inl _ => 1
  | .inr _ => N

/-- What a duty hands over: a later device's row to write into, the share of the totals lent to a send, a row with
    totals landed in it. -/
def pay (c : Dev nD) : Kd → Fin 7 → sProp 𝕄
  | .inl _, e => rowAny e (up e c)
  | .inr (.inl d), _ => totPts m (piece d) c
  | .inr (.inr d), _ => rowLanded m d c

/-- A signal hands over the row of the device that signals. -/
theorem pay_bar (c : Dev nD) (e : Fin 7) : pay m c (.inl ()) e = rowAny e (up e c) := rfl
/-- A finished send hands back the share of the totals. -/
theorem pay_send (c : Dev nD) (d e : Fin 7) : pay m c (.inr (.inl d)) e = totPts m (piece d) c := rfl
/-- An arrival hands over the row with the totals in it. -/
theorem pay_recv (c : Dev nD) (d e : Fin 7) : pay m c (.inr (.inr d)) e = rowLanded m d c := rfl

/-- Every duty adds something. -/
theorem amt_pos (k : Kd) : 0 < amt k := by
  rcases k with _ | _
  · exact Nat.one_pos
  · exact N_pos

/-- What a duty hands over may be put into an invariant. -/
instance pay_storable (c : Dev nD) (k : Kd) (e : Fin 7) : BI.Storable (upEmb : UEmb _ 𝕄) (pay m c k e) := by
  rcases k with _ | _ | _ <;> (unfold pay; infer_instance)

/-- The whole protocol. -/
def sched : Rounds.Schedule (GSem nD τ sig) (Fin 7) 𝕄 where
  duties g r := if r = 0 ∧ g.1.2 = .tc then (dec g.2).elim ∅ (dutySet g.1.1) else ∅
  unitless _ := False
  amount g _ _ := (dec g.2).elim 1 amt
  payload g _ e := (dec g.2).elim iprop(emp) (fun k => pay m g.1.1 k e)
  amount_pos g _ _ _ := by
    cases h : dec g.2 with
    | none => exact Nat.one_pos
    | some k => exact amt_pos k

/-- So may what any duty of the protocol hands over. -/
instance sched_payload_storable (g : GSem nD τ sig) (r : ℕ) (e : Fin 7) :
    BI.Storable (upEmb : UEmb _ 𝕄) ((sched m).payload g r e) := by
  show BI.Storable upEmb ((dec g.2).elim iprop(emp) (fun k => pay m g.1.1 k e))
  cases dec g.2 with
  | none => dsimp only [Option.elim]; infer_instance
  | some k => dsimp only [Option.elim]; infer_instance

/-- The protocol's duties at a cell of the kernel. -/
theorem duties_cell (c : Dev nD) (k : Kd) : (sched m).duties (kcell (c, k)) 0 = dutySet c k := by
  show (if (0 : ℕ) = 0 ∧ (Proc.tc : Proc τ) = .tc then (dec (csem k)).elim ∅ (dutySet c) else ∅) = _
  rw [if_pos ⟨rfl, rfl⟩, dec_csem]; rfl
/-- There are no duties after the first round. -/
theorem duties_later (g : GSem nD τ sig) : ∀ r, 1 ≤ r → (sched m).duties g r = ∅ :=
  fun r hr => if_neg fun h => by omega
/-- What a duty adds to a cell of the kernel. -/
theorem amount_cell (c : Dev nD) (k : Kd) (e : Fin 7) : (sched m).amount (kcell (c, k)) 0 e = amt k := by
  show (dec (csem k)).elim 1 amt = _
  rw [dec_csem]; rfl
/-- What a duty at a cell of the kernel hands over. -/
theorem payload_cell (c : Dev nD) (k : Kd) (e : Fin 7) : (sched m).payload (kcell (c, k)) 0 e = pay m c k e := by
  show (dec (csem k)).elim iprop(emp) (fun k => pay m c k e) = _
  rw [dec_csem]; rfl
/-- What a cell of the kernel counts up to. -/
theorem expect_cell (c : Dev nD) (k : Kd) : (sched m).expect (kcell (c, k)) 0 = (dutySet c k).card * amt k := by
  unfold Schedule.expect Schedule.amountOf
  rw [duties_cell, Finset.sum_congr rfl fun e _ => amount_cell m c k e, Finset.sum_const, smul_eq_mul]

/-- A barrier cell has as many duties as there are later devices. -/
theorem card_bar (c : Dev nD) : (dutySet c (.inl ())).card = 7 - c.val := by revert c; decide

/-! ## What each device owes at the start, and in which order the semaphores are waited for -/

/-- Debts in the order they are paid off. -/
def debt (l : List (CellTallies nD τ sig Unit)) : CellTallies nD τ sig Unit := l.foldr (fun a b => b + a) 0

/-- The unit a device owes the barrier of the device `d + 1` places before it. -/
def sigDebt (c : Dev nD) (d : Fin 7) : CellTallies nD τ sig Unit := tallyAt (barCell (dn d c)) () (if got d c then 1 else 0)
/-- The row a device owes the device `d + 1` places after it. -/
def sendDebt (c : Dev nD) (d : Fin 7) : CellTallies nD τ sig Unit := tallyAt (recvCell d (up d c)) () (if has d c then N else 0)

/-- The distances, nearest first. -/
abbrev ds : List (Fin 7) := [0, 1, 2, 3, 4, 5, 6]

/-- What device `c` owes at the start: its signals and then its sends. -/
def O₀ (c : Dev nD) : CellTallies nD τ sig Unit := debt (ds.map (sigDebt c) ++ ds.map (sendDebt c))

/-- The cells that have a level: those of the TensorCores. -/
def L (g : GSem nD τ sig) : Finset Unit := if g.1.2 = .tc then {()} else ∅
/-- The barrier is waited for before the arrivals; everything else first. -/
def lv (g : GSem nD τ sig) (_ : Unit) : ℕ := (dec g.2).elim 0 fun
  | .inl _ => 1
  | .inr (.inl _) => 0
  | .inr (.inr _) => 2

/-- Other processors' cells have no level. -/
theorem L_of_ne (g : GSem nD τ sig) (h : g.1.2 ≠ .tc) : L g = ∅ := if_neg h
/-- A TensorCore's cells have one. -/
theorem L_tc (c : Dev nD) (sm : SemLoc sig) : L ((c : Thread nD τ), sm) = {()} := if_pos rfl

/-- A debt is one of the listed ones. -/
theorem debt_pos {l : List (CellTallies nD τ sig Unit)} {g : GSem nD τ sig} {u : Unit} (h : 0 < debt l g u) :
    ∃ a ∈ l, 0 < a g u := by
  induction l with
  | nil => exact absurd h (Nat.lt_irrefl 0)
  | cons a l ih =>
    have h' : 0 < debt l g u + a g u := h
    rcases Nat.eq_zero_or_pos (a g u) with ha | ha
    · rw [ha, Nat.add_zero] at h'
      obtain ⟨b, hb, hb'⟩ := ih h'
      exact ⟨b, List.mem_cons_of_mem _ hb, hb'⟩
    · exact ⟨a, List.mem_cons_self, ha⟩

/-- A debt to one cell is a debt to no other. -/
theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- The level of a cell of the kernel. -/
theorem lv_kcell (c : Dev nD) (k : Kd) : lv (kcell (c, k)) () = (match k with | .inl _ => 1 | .inr (.inl _) => 0 | .inr (.inr _) => 2) := by
  show (dec (csem k)).elim 0 _ = _
  rw [dec_csem]; rfl

/-- A wait below everything still owed may go ahead. -/
theorem may_wait (c : Dev nD) (sm : SemLoc sig) (n : ℕ) (l : List (CellTallies nD τ sig Unit)) (hsm : lv ((c : Thread nD τ), sm) () ≤ n)
    (hl : ∀ a ∈ l, ∀ g u, 0 < a g u → g.1.2 = .tc ∧ n < lv g u) :
    (levAts L lv : sProp 𝕄) ⊢ MayWait (c : Thread nD τ) sm () (debt l) :=
  MayOwe.of_cut (L := L) (lev := lv) n (fun p hp => by rw [Finset.mem_singleton.mp hp, L_tc]; exact Finset.mem_singleton_self _)
    (fun g u hg => by
      obtain ⟨a, ha, h⟩ := debt_pos hg
      unfold L; rw [if_pos (hl a ha g u h).1]; exact Finset.mem_singleton_self _)
    (fun p hp => by rw [Finset.mem_singleton.mp hp]; exact hsm)
    (fun g u hg => by
      obtain ⟨a, ha, h⟩ := debt_pos hg
      exact (hl a ha g u h).2)

/-- The sends owed are owed to cells above the barrier's level. -/
theorem sends_above (c : Dev nD) : ∀ a ∈ ds.map (sendDebt c), ∀ g u, 0 < a g u → g.1.2 = .tc ∧ 1 < lv g u := by
  intro a ha g u h
  obtain ⟨d, -, rfl⟩ := List.mem_map.mp ha
  rw [tallyAt_pos h]
  exact ⟨rfl, by rw [show recvCell d (up d c) = kcell (up d c, .inr (.inr d)) from rfl, lv_kcell]; exact Nat.lt_succ_self 1⟩

/-- Everything owed is owed to cells above the lowest level. -/
theorem all_above (c : Dev nD) : ∀ a ∈ ds.map (sigDebt c) ++ ds.map (sendDebt c), ∀ g u, 0 < a g u → g.1.2 = .tc ∧ 0 < lv g u := by
  intro a ha g u h
  rcases List.mem_append.mp ha with ha | ha
  · obtain ⟨d, -, rfl⟩ := List.mem_map.mp ha
    rw [tallyAt_pos h]
    exact ⟨rfl, by rw [show barCell (dn d c) = kcell (dn d c, .inl ()) from rfl, lv_kcell]; exact Nat.one_pos⟩
  · have := sends_above c a ha g u h
    exact ⟨this.1, by omega⟩

/-- The barrier may be waited for with only sends owed. -/
theorem may_wait_bar (c : Dev nD) : (levAts L lv : sProp 𝕄) ⊢ MayWait (c : Thread nD τ) (.reg barS) () (debt (ds.map (sendDebt c))) :=
  may_wait c _ 1 _ (le_of_eq (lv_kcell c (.inl ()))) (sends_above c)

/-- A staging semaphore may be waited for whatever is owed. -/
theorem may_wait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · exact may_wait c _ 0 _ (by unfold lv; rw [hq]; exact le_rfl) (all_above c)
  · rw [MayWait_zero]; iintro -; iempintro

/-! ## The steps of the body

Each is one `if` of the kernel: both of its branches go on the same way, and the resources of the branch not taken are
empty. -/

/-- No loop of the kernel needs a variant. -/
abbrev 𝒱₀ : Variants := Variants.none

/-- Every cell's invariant, and that its first round is reached. -/
def recs (K : Dev nD × Kd → ℕ) : sProp 𝕄 :=
  bigSep Finset.univ fun ck => iprop(cellInv ER (sched m) (K ck) (kcell ck) ∗ reached ER (kcell ck) 0)

/-- The invariants can be used any number of times. -/
instance recs_persistent (K : Dev nD × Kd → ℕ) : Persistent (recs m K) := by unfold recs; infer_instance

/-- One cell's invariant out of them all. -/
theorem recs_at (K : Dev nD × Kd → ℕ) (ck : Dev nD × Kd) :
    recs m K ⊢ iprop(cellInv ER (sched m) (K ck) (kcell ck) ∗ reached ER (kcell ck) 0) :=
  bigSep_elim (Finset.mem_univ ck)

/-- What the device owes, whatever it has waited for. -/
def owesE (c : Dev nD) (O : CellTallies nD τ sig Unit) : sProp 𝕄 := iprop(∃ W, owes (c : Thread nD τ) O W)

/-- A row kept because there is no earlier device to lend it to. -/
def rowKept (d : Fin 7) (c : Dev nD) : sProp 𝕄 := if got d c then iprop(emp) else rowAny d c
/-- The later device's row, lent. -/
def rowLent (d : Fin 7) (c : Dev nD) : sProp 𝕄 := if has d c then rowAny d (up d c) else iprop(emp)
/-- A row once the arrival has been waited for. -/
def rowIn (d : Fin 7) (c : Dev nD) : sProp 𝕄 :=
  iprop(∃ f, ⌜got d c → (rowM d).view.read (Elt F) f = tot m (dn d c)⌝ ∗ rowPts d c f)
/-- A send under way: the right to wait for it, or the share it did not need. -/
def sendOut (d : Fin 7) (c : Dev nD) : sProp 𝕄 :=
  if has d c then cred (tallyAt (sendCell d c) () N) else totPts m (piece d) c
/-- The barrier after the waits at the first `j` distances. -/
def barAt (c : Dev nD) (j : ℕ) : sProp 𝕄 :=
  if j < 7 - c.val then
    iprop(∃ S, ⌜S ⊆ dutySet c (.inl ())⌝ ∗ atPos ER (barCell c) 0 S j ∗ bigSep S (pay m c (.inl ())))
  else iprop(∃ R, ⌜∀ r, R ≤ r → (sched m).duties (barCell c) r = ∅⌝ ∗ atPos ER (barCell c) R ∅ 0
    ∗ bigSep (dutySet c (.inl ())) (pay m c (.inl ())))

variable {α : Type} {Q : α → sProp (MT nD τ sig Unit (Elt F) ℕ UU ℕ)}

/-- One step done only if a condition holds, and then the rest. -/
@[irreducible] def when (P : Prop) [Decidable P] (A : P → Prog (TpuEff nD τ sig (Elt F) Λ₀ .tc) PUnit) (J : Prog (TpuEff nD τ sig (Elt F) Λ₀ .tc) α) :
    Prog (TpuEff nD τ sig (Elt F) Λ₀ .tc) α := if h : P then A h >>= fun _ => J else J
/-- A conditional step in the form that the kernel prints. -/
theorem when_fold (P : Prop) [Decidable P] (A : P → Prog (TpuEff nD τ sig (Elt F) Λ₀ .tc) PUnit) (J : Prog (TpuEff nD τ sig (Elt F) Λ₀ .tc) α) :
    (if h : P then A h >>= fun _ => J else J) = when P A J := by unfold when; rfl
/-- A conditional single operation, spelt out. -/
theorem when_lift (P : Prop) [Decidable P] (e : P → TpuEff nD τ sig (Elt F) Λ₀ .tc PUnit) (J : Prog (TpuEff nD τ sig (Elt F) Λ₀ .tc) α) :
    when P (fun h => Prog.lift (e h)) J = dite P (fun h => .op (e h) fun _ => J) (fun _ => J) := by unfold when; rfl
/-- A conditional signal of one, spelt out. -/
theorem when_signal (P : Prop) [Decidable P] (D : P → Dev nD) (J : Prog (TpuEff nD τ sig (Elt F) Λ₀ .tc) α) :
    when P (fun h => semSignalWord (D h) barS 1#32) J
      = dite P (fun h => .op (.semSignal (Dev.tc (D h) : Thread nD τ) barS ((1 : ℕ) : ℤ)) fun _ => J) (fun _ => J) := by unfold when; rfl
/-- A conditional wait for one, spelt out. -/
theorem when_wait (P : Prop) [Decidable P] (J : Prog (TpuEff nD τ sig (Elt F) Λ₀ .tc) α) :
    when P (fun _ => semWaitWord barS 1#32) J = dite P (fun _ => .op (.semWait barS ((1 : ℕ) : ℤ)) fun _ => J) (fun _ => J) := by unfold when; rfl
/-- The rest after such a step, taken step by step. -/
theorem peel {P : Prop} [Decidable P] {A : P → Prog (TpuEff nD τ sig (Elt F) Λ₀ .tc) PUnit} {J J' : Prog (TpuEff nD τ sig (Elt F) Λ₀ .tc) α}
    (h : J = J') : (if h : P then A h >>= fun _ => J else J) = when P A J' := h ▸ when_fold P A J
/-- A single operation followed by the rest. -/
theorem lift_bind {β : Type} (e : TpuEff nD τ sig (Elt F) Λ₀ .tc β) (k : β → Prog (TpuEff nD τ sig (Elt F) Λ₀ .tc) α) :
    (Prog.lift e >>= k) = .op e k := rfl

/-- The rest after a single operation, taken step by step. -/
theorem peel_op {β : Type} {e : TpuEff nD τ sig (Elt F) Λ₀ .tc β} {k k' : β → Prog (TpuEff nD τ sig (Elt F) Λ₀ .tc) α}
    (h : ∀ b, k b = k' b) : (Prog.lift e >>= k) = .op e k' := (funext h : k = k') ▸ lift_bind e k
/-- A program may be replaced by an equal one. -/
theorem wp_prog {A B : sProp (MT nD τ sig Unit (Elt F) ℕ UU ℕ)} {c : Dev nD} {p p' : Prog (TpuEff nD τ sig (Elt F) Λ₀ .tc) α} (h : p = p')
    (H : A ⊢ iprop(B -∗ wp frame (wpE (defs₀ (F := F)) 𝒱₀ (c : Thread nD τ) none) Set.univ p' Q)) :
    A ⊢ iprop(B -∗ wp frame (wpE (defs₀ (F := F)) 𝒱₀ (c : Thread nD τ) none) Set.univ p Q) := h ▸ H

/-- A signal, if there is an earlier device: its row is handed over. -/
theorem signal_step (K : Dev nD × Kd → ℕ) (c : Dev nD) (d : Fin 7) (l : List (CellTallies nD τ sig Unit))
    {P : Prop} [Decidable P] (hP : P ↔ got d c) {D : P → Dev nD} (hD : ∀ h, D h = dn d c)
    {J : Prog (TpuEff nD τ sig (Elt F) Λ₀ .tc) α} :
    iprop(recs m K ∗ dutyTok ER (barCell (dn d c)) 0 d ∗ rowAny d c ∗ owesE c (debt (sigDebt c d :: l)))
      ⊢ iprop((rowKept d c ∗ owesE c (debt l) -∗ wp frame (wpE (defs₀ (F := F)) 𝒱₀ (c : Thread nD τ) none) Set.univ J Q)
        -∗ wp frame (wpE (defs₀ (F := F)) 𝒱₀ (c : Thread nD τ) none) Set.univ
          (when P (fun h => semSignalWord (D h) barS 1#32) J) Q) := by
  rw [when_signal]
  iintro ⟨#HI, Ht, Hrow, HO⟩ Hk
  unfold owesE rowKept
  icases HO with ⟨%W, HO⟩
  by_cases h : P
  · have hg := hP.mp h
    rw [dif_pos h, if_pos hg, hD h]
    ihave H := (recs_at m K (dn d c, .inl ())) $$ HI
    icases H with ⟨#Hi, #Hr⟩
    iapply (Rounds.wp_signal 𝒱₀ ER (sched m) (c : Thread nD τ) none (dst := (dn d c : Thread nD τ)) (κ := K (dn d c, .inl ()))
      (r := 0) (d := d) (by rw [show ((dn d c : Thread nD τ), SemLoc.reg barS) = kcell (dn d c, .inl ()) from rfl, duties_cell]
                            exact Finset.mem_filter.mpr ⟨Finset.mem_univ _, (has_dn d c).mpr hg⟩)
      (amount_cell m (dn d c) (.inl ()) d) () (debt l)
      (show debt l + sigDebt c d = _ by unfold sigDebt; rw [if_pos hg]; rfl)) $$ [HO Ht Hrow]
    · isplitr; · iexact Hi
      isplitl [HO]; · iexact HO
      isplitl [Ht]; · iexact Ht
      isplitl [Hrow]
      · rw [show ((dn d c : Thread nD τ), SemLoc.reg barS) = kcell (dn d c, .inl ()) from rfl, payload_cell]
        rw [pay_bar, up_dn]; iexact Hrow
      · iexact Hr
    iintro HO
    iapply Hk
    isplitr; · iempintro
    iexists W; iexact HO
  · have hg := fun h' => h (hP.mpr h')
    rw [dif_neg h, if_neg hg]
    iapply Hk
    isplitl [Hrow]; · iexact Hrow
    iexists W
    rw [show debt (sigDebt c d :: l) = debt l + sigDebt c d from rfl, sigDebt, if_neg hg, tallyAt_zero, add_zero]
    iexact HO

/-- A wait on the barrier, if there is a later device. -/
theorem bar_step (K : Dev nD × Kd → ℕ) (c : Dev nD) (d : Fin 7)
    {P : Prop} [Decidable P] (hP : P ↔ has d c) {J : Prog (TpuEff nD τ sig (Elt F) Λ₀ .tc) α} :
    iprop(recs m K ∗ levAts L lv ∗ barAt m c d.val ∗ cred (tallyAt (barCell c) () (if has d c then 1 else 0))
        ∗ owesE c (debt (ds.map (sendDebt c))))
      ⊢ iprop((barAt m c (d.val + 1) ∗ owesE c (debt (ds.map (sendDebt c)))
            -∗ wp frame (wpE (defs₀ (F := F)) 𝒱₀ (c : Thread nD τ) none) Set.univ J Q)
        -∗ wp frame (wpE (defs₀ (F := F)) 𝒱₀ (c : Thread nD τ) none) Set.univ
          (when P (fun _ => semWaitWord barS 1#32) J) Q) := by
  rw [when_wait]
  unfold owesE barAt
  by_cases h : P
  · have hh : c.val + (d.val + 1) < 8 := hP.mp h
    have hcard := card_bar c
    have hE : (sched m).expect (barCell c) 0 = 7 - c.val := by
      rw [show barCell c = kcell (c, .inl ()) from rfl, expect_cell, hcard]; exact Nat.mul_one _
    rw [dif_pos h, if_pos hh, if_pos (show d.val < 7 - c.val by omega)]
    iintro ⟨#HI, #Hlev, ⟨%S, %hS, Hat, Hpay⟩, Hc, ⟨%W, HO⟩⟩ Hk
    ihave H := (recs_at m K (c, .inl ())) $$ HI
    icases H with ⟨#Hi, -⟩
    by_cases hl : d.val + 1 < 7 - c.val
    · rw [if_pos hl]
      iapply (Rounds.wp_wait 𝒱₀ ER (sched m) (c : Thread nD τ) none (κ := K (c, .inl ()))
        (wpE_semWait_eq 𝒱₀ (c : Thread nD τ) none Set.univ) (Set.mem_univ _) (cr := Finsupp.single () 1)
        {(SemLoc.reg barS, ())} (R := 0) (m := d.val) (T := S) (by rw [Util.total_single]) (image_single_subset _ () 1)) $$ [Hc HO Hat]
      · isplitr; · iexact Hi
        isplitl [Hc]; · iexact Hc
        isplitl [HO]; · iexact HO
        isplitr; · iapply (may_wait_bar c); iexact Hlev
        iexact Hat
      iintro %S' ⟨%hS', HO, Hat, Hnew⟩
      iapply Hk
      isplitr [HO]
      · iexists S'
        isplitr; · ipureintro; exact (duties_cell m c (.inl ())) ▸ hS'.2.1
        isplitl [Hat]; · iexact Hat
        iapply (Entails.of_eq (show iprop(bigSep S (pay m c (.inl ())) ∗ bigSep (S' \ S) (pay m c (.inl ()))) = bigSep S' (pay m c (.inl ())) by
          conv_rhs => rw [← Finset.union_sdiff_of_subset hS'.1]
          exact (bigSep_union Finset.disjoint_sdiff).symm))
        isplitl [Hpay]; · iexact Hpay
        iapply (Entails.of_eq (bigSep_congr fun e _ => payload_cell m c (.inl ()) e)); iexact Hnew
      · iexists _; iexact HO
    · rw [if_neg hl]
      iapply (Rounds.wp_wait_rest_token 𝒱₀ ER (sched m) (c : Thread nD τ) none (κ := K (c, .inl ()))
        (wpE_semWait_eq 𝒱₀ (c : Thread nD τ) none Set.univ) (Set.mem_univ _) () (W := W) (R := 0) (m := d.val) (T := S)
        (by rw [hE]; omega)) $$ [Hc HO Hat]
      · isplitr; · iexact Hi
        isplitl [Hc]; · iexact Hc
        isplitl [HO]; · iexact HO
        isplitr; · iapply (may_wait_bar c); iexact Hlev
        iexact Hat
      iintro ⟨HO, Hat, -, Hnew⟩
      iapply Hk
      isplitr [HO]
      · iexists (0 + 1)
        isplitr; · ipureintro; exact duties_later m (barCell c)
        isplitl [Hat]; · iexact Hat
        iapply (Entails.of_eq (show iprop(bigSep S (pay m c (.inl ())) ∗ bigSep (dutySet c (.inl ()) \ S) (pay m c (.inl ())))
          = bigSep (dutySet c (.inl ())) (pay m c (.inl ())) by
          conv_rhs => rw [← Finset.union_sdiff_of_subset hS]
          exact (bigSep_union Finset.disjoint_sdiff).symm))
        isplitl [Hpay]; · iexact Hpay
        iapply (Entails.of_eq (show bigSep ((sched m).duties (kcell (c, .inl ())) 0 \ S) (fun e => (sched m).payload (kcell (c, .inl ())) 0 e) = _ by
          rw [duties_cell]; exact bigSep_congr fun e _ => payload_cell m c (.inl ()) e)); iexact Hnew
      · iexists _; iexact HO
  · have hh : ¬ c.val + (d.val + 1) < 8 := fun h' => h (hP.mpr h')
    rw [dif_neg h, if_neg (show ¬ d.val < 7 - c.val by omega), if_neg (show ¬ d.val + 1 < 7 - c.val by omega)]
    iintro ⟨-, -, Hb, -, ⟨%W, HO⟩⟩ Hk
    iapply Hk
    isplitl [Hb]; · iexact Hb
    iexists W; iexact HO

/-- After the last wait the barrier is closed, and the rows of the later devices are lent. -/
theorem bar_close (K : Dev nD × Kd → ℕ) (c : Dev nD) :
    iprop(recs m K ∗ barAt m c 7)
      ⊢ iprop(|={Set.univ}=> (semVal (barCell c) 0 ∗ bigSep Finset.univ fun d => rowLent (F := F) d c)) := by
  unfold barAt
  rw [if_neg (show ¬ 7 < 7 - c.val by omega)]
  iintro ⟨#HI, %R, %hR, Hat, Hpay⟩
  ihave H := (recs_at m K (c, .inl ())) $$ HI
  icases H with ⟨#Hi, -⟩
  imod (Rounds.cell_close ER (sched m) (Set.mem_univ (K (c, .inl ()))) (fun h => h) (R := R) hR) $$ [Hat] with Hz
  · isplitr; · iexact Hi
    iexact Hat
  imodintro
  isplitl [Hz]; · iexact Hz
  iapply (Entails.of_eq (show bigSep (dutySet c (.inl ())) (pay m c (.inl ())) = bigSep Finset.univ fun d => rowLent (F := F) d c from
    (bigSep_filter _ _ _).trans (bigSep_congr fun d _ => rfl)))
  iexact Hpay

/-- A row rewritten with a device's totals has them landed. -/
theorem landed (c : Dev nD) (d : Fin 7) (f : Buf (Elt F) ((rowM d).view.loc (up d c : Thread nD τ))) :
    ((rowM d).view.loc (up d c : Thread nD τ) ↦[(rowM d).view.set]{fullShare}
        ((rowM d).view.write (Elt F) f (totM.view.read (Elt F) (tot m c)) Finset.univ) : sProp 𝕄)
      ⊢ rowLanded m d (up d c) := by
  unfold rowLanded rowPts
  have h : (rowM d).view.read (Elt F) ((rowM d).view.write (Elt F) f (totM.view.read (Elt F) (tot m c)) Finset.univ)
      = tot m (dn d (up d c)) := by
    rw [View.read_write_univ, dn_up]; exact Memref.read_access_unit_zero (Elt F) cc0_scratch0 hz _ _
  iintro H
  iexists ((rowM d).view.write (Elt F) f (totM.view.read (Elt F) (tot m c)) Finset.univ)
  isplitr
  · ipureintro; exact h
  iexact H

/-- The send of the totals at one distance, addressed to the device there. -/
theorem send_op (K : Dev nD × Kd → ℕ) (c : Dev nD) (d : Fin 7) (hh : has d c) (l : List (CellTallies nD τ sig Unit))
    (n : Dev nD) (hn : n = up d c) {hsc : (rowM d).view.ref.isScScratch = false}
    {hsrc : totM.view.WordExact} {hdst : (rowM d).view.WordExact}
    {hsem : DmaTarget.Typed .vmem (.dma (recvS d)) (.remote (Dev.tc n : Thread nD τ) (rowM d) (.dma (sendS d)) hsc)}
    {k : PUnit → Prog (TpuEff nD τ sig (Elt F) Λ₀ .tc) α} :
    iprop(recs m K ∗ dutyTok ER (sendCell d c) 0 d ∗ dutyTok ER (recvCell d (up d c)) 0 d ∗ rowAny d (up d c)
        ∗ totPts m (piece d) c ∗ owesE c (debt (sendDebt c d :: l)))
      ⊢ iprop((cred (tallyAt (sendCell d c) () N) ∗ owesE c (debt l)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma totM (.remote (Dev.tc n : Thread nD τ) (rowM d) (.dma (sendS d)) hsc) (.dma (recvS d)) hsrc hdst hsem) k) Q) := by
  subst hn
  unfold owesE rowAny rowPts totPts
  iintro ⟨#HI, Ht1, Ht2, ⟨%f, Hrow⟩, Htot, ⟨%W, HO⟩⟩ Hk
  ihave H := (recs_at m K (c, .inr (.inl d))) $$ HI
  icases H with ⟨#Hi1, #Hr1⟩
  ihave H := (recs_at m K (up d c, .inr (.inr d))) $$ HI
  icases H with ⟨#Hi2, #Hr2⟩
  iapply (Rounds.wp_send_pointsTo 𝒱₀ ER (sched m) (c : Thread nD τ) none (κ₁ := K (c, .inr (.inl d))) (κ₂ := K (up d c, .inr (.inr d)))
    (r₁ := 0) (r₂ := 0) (d₁ := d) (d₂ := d) (q := piece d) (fs := tot m c) (fd := f)
    (by rw [show ((c : Thread nD τ), SemLoc.dma (sendS d)) = kcell (c, .inr (.inl d)) from rfl, duties_cell]
        rw [dutySet_send, if_pos hh]; exact Finset.mem_singleton_self _)
    (by rw [show ((up d c : Thread nD τ), SemLoc.dma (recvS d)) = kcell (up d c, .inr (.inr d)) from rfl, duties_cell]
        rw [dutySet_recv, if_pos ((got_up d c).mpr hh)]; exact Finset.mem_singleton_self _)
    () () N rfl (amount_cell m c (.inr (.inl d)) d) (amount_cell m (up d c) (.inr (.inr d)) d) (debt l)
    (show debt l + sendDebt c d = _ by unfold sendDebt; rw [if_pos hh]) (W := W)
    (by rw [show ((c : Thread nD τ), SemLoc.dma (sendS d)) = kcell (c, .inr (.inl d)) from rfl, payload_cell]
        rw [pay_send]; exact BI.Entails.refl _)
    (by rw [show ((up d c : Thread nD τ), SemLoc.dma (recvS d)) = kcell (up d c, .inr (.inr d)) from rfl, payload_cell]
        exact landed m c d f)) $$ [Ht1 Ht2 Hrow Htot HO]
  · isplitr; · iexact Hi1
    isplitr; · iexact Hi2
    isplitl [Htot]; · iexact Htot
    isplitl [Hrow]; · iexact Hrow
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The send at one distance, if there is a device there. -/
theorem send_step (K : Dev nD × Kd → ℕ) (c : Dev nD) (d : Fin 7) (l : List (CellTallies nD τ sig Unit))
    {P : Prop} [Decidable P] (hP : P ↔ has d c) {D : P → Dev nD} (hD : ∀ h, D h = up d c)
    {s₁ s₂ : DmaSem sig} (hs₁ : s₁ = sendS d) (hs₂ : s₂ = recvS d)
    {src dst : Memref sig .tc .vmem S1x256 .f32} (hsrc' : src = totM) (hdst' : dst = rowM d) {hsc : P → dst.view.ref.isScScratch = false}
    {hsrc : P → src.view.WordExact} {hdst : P → dst.view.WordExact}
    {hsem : ∀ h, DmaTarget.Typed .vmem (.dma s₂) (.remote (Dev.tc (D h) : Thread nD τ) dst (.dma s₁) (hsc h))}
    {J : Prog (TpuEff nD τ sig (Elt F) Λ₀ .tc) α} :
    iprop(recs m K ∗ dutyTok ER (sendCell d c) 0 d ∗ dutyTok ER (recvCell d (up d c)) 0 d ∗ rowLent d c
        ∗ totPts m (piece d) c ∗ owesE c (debt (sendDebt c d :: l)))
      ⊢ iprop((sendOut m d c ∗ owesE c (debt l) -∗ wp frame (wpE (defs₀ (F := F)) 𝒱₀ (c : Thread nD τ) none) Set.univ J Q)
        -∗ wp frame (wpE (defs₀ (F := F)) 𝒱₀ (c : Thread nD τ) none) Set.univ
          (when P (fun h => Prog.lift (.enqueueDma src (.remote (Dev.tc (D h) : Thread nD τ) dst (.dma s₁) (hsc h)) (.dma s₂) (hsrc h) (hdst h) (hsem h))) J) Q) := by
  rw [when_lift]
  subst hs₁ hs₂ hsrc' hdst'
  unfold rowLent sendOut
  by_cases h : P
  · have hh := hP.mp h
    rw [dif_pos h, if_pos hh, if_pos hh]
    exact send_op m K c d hh l (D h) (hD h) (k := fun _ => J)
  · have hh := fun h' => h (hP.mpr h')
    rw [dif_neg h, if_neg hh, if_neg hh]
    iintro ⟨-, -, -, -, Htot, HO⟩ Hk
    iapply Hk
    isplitl [Htot]; · iexact Htot
    rw [show debt (sendDebt c d :: l) = debt l + sendDebt c d from rfl, sendDebt, if_neg hh, tallyAt_zero, add_zero]
    iexact HO

/-- Waiting out and closing a transfer's cell of one duty. -/
theorem cell_wait (K : Dev nD × Kd → ℕ) (c : Dev nD) (k : Fin 7 ⊕ Fin 7) (d : Fin 7) (hd : dutySet c (.inr k) = {d})
    {s : DmaSem sig} (hs : SemLoc.dma s = csem (.inr k)) {sp sp' : Space} {sh sh' : Shape} {e e' : EltTy}
    {src : Memref sig .tc sp sh e} {dst : Memref sig .tc sp' sh' e'}
    (hN : dst.view.dmaCredit = N) {h₁ : src.view.WordExact} {h₂ : dst.view.WordExact}
    {J : PUnit → Prog (TpuEff nD τ sig (Elt F) Λ₀ .tc) α} :
    iprop(recs m K ∗ atPos ER (kcell (c, .inr k)) 0 ∅ 0 ∗ cred (tallyAt (kcell (c, .inr k)) () N) ∗ owesE c 0)
      ⊢ iprop((semVal (kcell (c, .inr k)) 0 ∗ pay m c (.inr k) d ∗ owesE c 0
          -∗ wp frame (wpE (defs₀ (F := F)) 𝒱₀ (c : Thread nD τ) none) Set.univ (J ⟨⟩) Q)
        -∗ wp frame (wpE (defs₀ (F := F)) 𝒱₀ (c : Thread nD τ) none) Set.univ (.op (.waitDma2 s src dst h₁ h₂) J) Q) := by
  iintro ⟨#HI, Hat, Hc, HO⟩ Hk
  unfold owesE
  icases HO with ⟨%W, HO⟩
  ihave H := (recs_at m K (c, .inr k)) $$ HI
  icases H with ⟨#Hi, -⟩
  iapply (Rounds.wp_wait_rest_token 𝒱₀ ER (sched m) (c : Thread nD τ) none (κ := K (c, .inr k)) (sm := csem (.inr k)) (k' := N)
    (hs ▸ hN ▸ wpE_waitDma2_eq 𝒱₀ (c : Thread nD τ) none Set.univ) (Set.mem_univ _) () (O := 0) (W := W) (R := 0) (m := 0) (T := ∅)
    (by rw [Nat.zero_add, show ((c : Thread nD τ), csem (.inr k)) = kcell (c, .inr k) from rfl, expect_cell, hd, Finset.card_singleton, Nat.one_mul]; rfl))
    $$ [Hat Hc HO]
  · isplitr; · iexact Hi
    isplitl [Hc]; · iexact Hc
    isplitl [HO]; · iexact HO
    isplitr; · rw [MayWait_zero]; iempintro
    iexact Hat
  iintro ⟨HO, Hat, -, Hpay⟩
  imod (Rounds.cell_close ER (sched m) (Set.mem_univ (K (c, .inr k))) (fun h => h) (R := 0 + 1) (duties_later m (kcell (c, .inr k)))) $$ [Hat] with Hz
  · isplitr; · iexact Hi
    iexact Hat
  iapply Hk
  isplitl [Hz]; · iexact Hz
  isplitl [Hpay]
  · iapply (Entails.of_eq (show bigSep ((sched m).duties (kcell (c, .inr k)) 0 \ ∅) (fun e => (sched m).payload (kcell (c, .inr k)) 0 e)
      = pay m c (.inr k) d by rw [duties_cell, hd, Finset.sdiff_empty, bigSep_singleton, payload_cell]))
    iexact Hpay
  iexists _; iexact HO

/-- Closing a transfer's cell that has no duty. -/
theorem cell_idle (K : Dev nD × Kd → ℕ) (c : Dev nD) (k : Fin 7 ⊕ Fin 7) (hd : dutySet c (.inr k) = ∅) :
    iprop(recs m K ∗ atPos ER (kcell (c, .inr k)) 0 ∅ 0) ⊢ iprop(|={Set.univ}=> semVal (kcell (c, .inr k)) 0) := by
  iintro ⟨#HI, Hat⟩
  ihave H := (recs_at m K (c, .inr k)) $$ HI
  icases H with ⟨#Hi, -⟩
  iapply (Rounds.cell_close ER (sched m) (Set.mem_univ (K (c, .inr k))) (fun h => h) (R := 0) (fun r _ => by
    rcases Nat.eq_zero_or_pos r with rfl | hr
    · rw [duties_cell, hd]
    · exact duties_later m _ r hr))
  isplitr; · iexact Hi
  iexact Hat

/-- The wait for an arrival, if there is an earlier device. -/
theorem recv_step (K : Dev nD × Kd → ℕ) (c : Dev nD) (d : Fin 7)
    {P : Prop} [Decidable P] (hP : P ↔ got d c) {s : DmaSem sig} (hs : s = recvS d)
    {sp sp' : Space} {sh sh' : Shape} {e e' : EltTy} {src : Memref sig .tc sp sh e} {dst : Memref sig .tc sp' sh' e'}
    (hN : dst.view.dmaCredit = N) {h₁ : P → src.view.WordExact} {h₂ : P → dst.view.WordExact}
    {J : Prog (TpuEff nD τ sig (Elt F) Λ₀ .tc) α} :
    iprop(recs m K ∗ atPos ER (recvCell d c) 0 ∅ 0 ∗ cred (tallyAt (recvCell d c) () (if got d c then N else 0)) ∗ rowKept d c ∗ owesE c 0)
      ⊢ iprop((semVal (recvCell d c) 0 ∗ rowIn m d c ∗ owesE c 0
          -∗ wp frame (wpE (defs₀ (F := F)) 𝒱₀ (c : Thread nD τ) none) Set.univ J Q)
        -∗ wp frame (wpE (defs₀ (F := F)) 𝒱₀ (c : Thread nD τ) none) Set.univ
          (when P (fun h => Prog.lift (.waitDma2 s src dst (h₁ h) (h₂ h))) J) Q) := by
  rw [when_lift]
  subst hs
  iintro ⟨#HI, Hat, Hc, Hrow, HO⟩ Hk
  unfold rowKept
  by_cases h : P
  · have hg := hP.mp h
    rw [dif_pos h, if_pos hg, if_pos hg]
    iapply (cell_wait m K c (.inr d) d (if_pos hg) rfl hN) $$ [Hat Hc HO]
    · isplitr; · iexact HI
      isplitl [Hat]; · iexact Hat
      isplitl [Hc] <;> iassumption
    iintro ⟨Hz, Hpay, HO⟩
    iapply Hk
    isplitl [Hz]; · iexact Hz
    isplitl [Hpay]
    · unfold pay rowLanded rowIn
      icases Hpay with ⟨%f, %hf, Hpay⟩
      iexists f
      isplitr; · ipureintro; exact fun _ => hf
      iexact Hpay
    iexact HO
  · have hg := fun h' => h (hP.mpr h')
    rw [dif_neg h, if_neg hg]
    imod (cell_idle m K c (.inr d) (if_neg hg)) $$ [Hat] with Hz
    · isplitr; · iexact HI
      iexact Hat
    iapply Hk
    isplitl [Hz]; · iexact Hz
    isplitl [Hrow]
    · ihave Hrow := (Entails.of_eq (if_neg hg)) $$ Hrow
      unfold rowAny rowIn
      icases Hrow with ⟨%f, Hrow⟩
      iexists f
      isplitr; · ipureintro; exact fun h' => absurd h' hg
      iexact Hrow
    iexact HO

/-- The wait for a send, if there is a later device: its share of the totals is back. -/
theorem sent_step (K : Dev nD × Kd → ℕ) (c : Dev nD) (d : Fin 7)
    {P : Prop} [Decidable P] (hP : P ↔ has d c) {s : DmaSem sig} (hs : s = sendS d)
    {sp sp' : Space} {sh sh' : Shape} {e e' : EltTy} {src : Memref sig .tc sp sh e} {dst : Memref sig .tc sp' sh' e'}
    (hN : dst.view.dmaCredit = N) {h₁ : P → src.view.WordExact} {h₂ : P → dst.view.WordExact}
    {J : Prog (TpuEff nD τ sig (Elt F) Λ₀ .tc) α} :
    iprop(recs m K ∗ atPos ER (sendCell d c) 0 ∅ 0 ∗ sendOut m d c ∗ owesE c 0)
      ⊢ iprop((semVal (sendCell d c) 0 ∗ totPts m (piece d) c ∗ owesE c 0
          -∗ wp frame (wpE (defs₀ (F := F)) 𝒱₀ (c : Thread nD τ) none) Set.univ J Q)
        -∗ wp frame (wpE (defs₀ (F := F)) 𝒱₀ (c : Thread nD τ) none) Set.univ
          (when P (fun h => Prog.lift (.waitDma2 s src dst (h₁ h) (h₂ h))) J) Q) := by
  rw [when_lift]
  subst hs
  unfold sendOut
  by_cases h : P
  · have hh := hP.mp h
    rw [dif_pos h, if_pos hh]
    iintro ⟨#HI, Hat, Hc, HO⟩ Hk
    iapply (cell_wait m K c (.inl d) d (if_pos hh) rfl hN) $$ [Hat Hc HO]
    · isplitr; · iexact HI
      isplitl [Hat]; · iexact Hat
      isplitl [Hc] <;> iassumption
    iexact Hk
  · have hh := fun h' => h (hP.mpr h')
    rw [dif_neg h, if_neg hh]
    iintro ⟨#HI, Hat, Hc, HO⟩ Hk
    imod (cell_idle m K c (.inl d) (if_neg hh)) $$ [Hat] with Hz
    · isplitr; · iexact HI
      iexact Hat
    iapply Hk
    isplitl [Hz]; · iexact Hz
    isplitl [Hc] <;> iassumption

end Cert.KernelIdeal.Scan

end
-- ==== Proof.BodyI.lean ====
/-
  The body of the sharded running product, followed step by step from what a device holds at the start to what it holds
  at the end.
-/
module

public import proofs.«01_k».proof.Proof.ScanI

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

/-! ## The words the kernel computes from its own number -/

/-- The device's number, as the kernel reads it. -/
abbrev wv (c : Dev nD) : BitVec 32 := Scalar.remsi (Scalar.divsi (Dev.word c) 1#32) 8#32
/-- The test for a later device at a distance. -/
abbrev later (c : Dev nD) (w : BitVec 32) : Prop :=
  Scalar.cmpi .ne (Scalar.extui (Scalar.cmpi .slt (Scalar.addi (wv c) w) 8#32)) 0#32 = 1#1
/-- The test for an earlier device at a distance. -/
abbrev earlier (c : Dev nD) (w : BitVec 32) : Prop :=
  Scalar.cmpi .ne (Scalar.extui (Scalar.cmpi .sge (Scalar.subi (wv c) w) 0#32)) 0#32 = 1#1

/-- The kernel's test for a later device says what it should. -/
theorem later_iff (d : Fin 7) : later c (BitVec.ofNat 32 (d.val + 1)) ↔ has d c := by revert d c; decide +kernel
/-- The kernel's test for an earlier device says what it should. -/
theorem earlier_iff (d : Fin 7) : earlier c (BitVec.ofNat 32 (d.val + 1)) ↔ got d c := by revert d c; decide +kernel

/-- The test before the signal at distance 1: there is an earlier device there. -/
theorem cond1_iff : k0_cond1 c = 1#1 ↔ got 0 c := by revert c; decide +kernel
/-- The test before the signal at distance 2: there is an earlier device there. -/
theorem cond2_iff : k0_cond2 c = 1#1 ↔ got 1 c := by revert c; decide +kernel
/-- The test before the signal at distance 3: there is an earlier device there. -/
theorem cond3_iff : k0_cond3 c = 1#1 ↔ got 2 c := by revert c; decide +kernel
/-- The test before the signal at distance 4: there is an earlier device there. -/
theorem cond4_iff : k0_cond4 c = 1#1 ↔ got 3 c := by revert c; decide +kernel
/-- The test before the signal at distance 5: there is an earlier device there. -/
theorem cond5_iff : k0_cond5 c = 1#1 ↔ got 4 c := by revert c; decide +kernel
/-- The test before the signal at distance 6: there is an earlier device there. -/
theorem cond6_iff : k0_cond6 c = 1#1 ↔ got 5 c := by revert c; decide +kernel
/-- The test before the signal at distance 7: there is an earlier device there. -/
theorem cond7_iff : k0_cond7 c = 1#1 ↔ got 6 c := by revert c; decide +kernel
/-- The test before the send at distance 1: there is a later device there. -/
theorem cond15_iff : k0_cond15 c = 1#1 ↔ has 0 c := by revert c; decide +kernel
/-- The test before the send at distance 2: there is a later device there. -/
theorem cond16_iff : k0_cond16 c = 1#1 ↔ has 1 c := by revert c; decide +kernel
/-- The test before the send at distance 3: there is a later device there. -/
theorem cond17_iff : k0_cond17 c = 1#1 ↔ has 2 c := by revert c; decide +kernel
/-- The test before the send at distance 4: there is a later device there. -/
theorem cond18_iff : k0_cond18 c = 1#1 ↔ has 3 c := by revert c; decide +kernel
/-- The test before the send at distance 5: there is a later device there. -/
theorem cond19_iff : k0_cond19 c = 1#1 ↔ has 4 c := by revert c; decide +kernel
/-- The test before the send at distance 6: there is a later device there. -/
theorem cond20_iff : k0_cond20 c = 1#1 ↔ has 5 c := by revert c; decide +kernel
/-- The test before the send at distance 7: there is a later device there. -/
theorem cond21_iff : k0_cond21 c = 1#1 ↔ has 6 c := by revert c; decide +kernel

/-- The signal at distance 1 goes to the device that far before. -/
theorem dev1_dn (h : k0_cond1 c = 1#1) : (⟨k0_dev1 c, k0_dev1_lt c h⟩ : Dev nD) = dn 0 c := Fin.ext (by revert c; decide +kernel)
/-- The signal at distance 2 goes to the device that far before. -/
theorem dev2_dn (h : k0_cond2 c = 1#1) : (⟨k0_dev2 c, k0_dev2_lt c h⟩ : Dev nD) = dn 1 c := Fin.ext (by revert c; decide +kernel)
/-- The signal at distance 3 goes to the device that far before. -/
theorem dev3_dn (h : k0_cond3 c = 1#1) : (⟨k0_dev3 c, k0_dev3_lt c h⟩ : Dev nD) = dn 2 c := Fin.ext (by revert c; decide +kernel)
/-- The signal at distance 4 goes to the device that far before. -/
theorem dev4_dn (h : k0_cond4 c = 1#1) : (⟨k0_dev4 c, k0_dev4_lt c h⟩ : Dev nD) = dn 3 c := Fin.ext (by revert c; decide +kernel)
/-- The signal at distance 5 goes to the device that far before. -/
theorem dev5_dn (h : k0_cond5 c = 1#1) : (⟨k0_dev5 c, k0_dev5_lt c h⟩ : Dev nD) = dn 4 c := Fin.ext (by revert c; decide +kernel)
/-- The signal at distance 6 goes to the device that far before. -/
theorem dev6_dn (h : k0_cond6 c = 1#1) : (⟨k0_dev6 c, k0_dev6_lt c h⟩ : Dev nD) = dn 5 c := Fin.ext (by revert c; decide +kernel)
/-- The signal at distance 7 goes to the device that far before. -/
theorem dev7_dn (h : k0_cond7 c = 1#1) : (⟨k0_dev7 c, k0_dev7_lt c h⟩ : Dev nD) = dn 6 c := Fin.ext (by revert c; decide +kernel)
/-- The send at distance 1 goes to the device that far after. -/
theorem dev8_up (h : k0_cond15 c = 1#1) : (⟨k0_dev8 c, k0_dev8_lt c h⟩ : Dev nD) = up 0 c := Fin.ext (by revert c; decide +kernel)
/-- The send at distance 2 goes to the device that far after. -/
theorem dev9_up (h : k0_cond16 c = 1#1) : (⟨k0_dev9 c, k0_dev9_lt c h⟩ : Dev nD) = up 1 c := Fin.ext (by revert c; decide +kernel)
/-- The send at distance 3 goes to the device that far after. -/
theorem dev10_up (h : k0_cond17 c = 1#1) : (⟨k0_dev10 c, k0_dev10_lt c h⟩ : Dev nD) = up 2 c := Fin.ext (by revert c; decide +kernel)
/-- The send at distance 4 goes to the device that far after. -/
theorem dev11_up (h : k0_cond18 c = 1#1) : (⟨k0_dev11 c, k0_dev11_lt c h⟩ : Dev nD) = up 3 c := Fin.ext (by revert c; decide +kernel)
/-- The send at distance 5 goes to the device that far after. -/
theorem dev12_up (h : k0_cond19 c = 1#1) : (⟨k0_dev12 c, k0_dev12_lt c h⟩ : Dev nD) = up 4 c := Fin.ext (by revert c; decide +kernel)
/-- The send at distance 6 goes to the device that far after. -/
theorem dev13_up (h : k0_cond20 c = 1#1) : (⟨k0_dev13 c, k0_dev13_lt c h⟩ : Dev nD) = up 5 c := Fin.ext (by revert c; decide +kernel)
/-- The send at distance 7 goes to the device that far after. -/
theorem dev14_up (h : k0_cond21 c = 1#1) : (⟨k0_dev14 c, k0_dev14_lt c h⟩ : Dev nD) = up 6 c := Fin.ext (by revert c; decide +kernel)

/-! ## The parts -/

/-- What a signal at one distance uses. -/
def sigIn (d : Fin 7) (c : Dev nD) : sProp 𝕄 := iprop(dutyTok ER (barCell (dn d c)) 0 d ∗ rowAny d c)

/-- The first six signals. -/
theorem part1 {Q : _ → sProp (MT nD τ sig Unit (Elt F) ℕ UU ℕ)} :
    iprop(recs m K ∗ sigIn 0 c ∗ sigIn 1 c ∗ sigIn 2 c ∗ sigIn 3 c ∗ sigIn 4 c ∗ sigIn 5 c ∗ owesE c (O₀ c))
      ⊢ iprop((rowKept 0 c ∗ rowKept 1 c ∗ rowKept 2 c ∗ rowKept 3 c ∗ rowKept 4 c ∗ rowKept 5 c
            ∗ owesE c (debt (sigDebt c 6 :: ds.map (sendDebt c)))
          -∗ Q ⟨c, wv c, SemArray.scalar (sig.barrier 0 rfl), Scalar.extui (Scalar.cmpi .sge (Scalar.subi (wv c) 7#32) 0#32)⟩)
        -∗ wp frame (wpE (defs₀ (F := F)) 𝒱₀ (c : Thread nD τ) none) Set.univ
          (k0_part1_skel xM (Memref.isWhole_whole _) oM (Memref.isWhole_whole _) wM (Memref.isWhole_whole _) vM (Memref.isWhole_whole _)
            cc0_scratch2 cc0_scratch3) Q) := by
  unfold k0_part1_skel sigIn
  simp (config := { zetaHave := false }) only [when_fold]
  simp only [lift_bind, wp_deviceId, Prog.pure_eq_ret]
  iintro ⟨#HI, ⟨Ht0, Hr0⟩, ⟨Ht1, Hr1⟩, ⟨Ht2, Hr2⟩, ⟨Ht3, Hr3⟩, ⟨Ht4, Hr4⟩, ⟨Ht5, Hr5⟩, HO⟩ Hk
  iapply (signal_step m K c 0 ([1, 2, 3, 4, 5, 6].map (sigDebt c) ++ ds.map (sendDebt c)) (cond1_iff c)
    (dev1_dn c)) $$ [Ht0 Hr0 HO]
  · isplitr; · iexact HI
    isplitl [Ht0]; · iexact Ht0
    isplitl [Hr0]; · iexact Hr0
    iexact HO
  iintro ⟨Hr0, HO⟩
  iapply (signal_step m K c 1 ([2, 3, 4, 5, 6].map (sigDebt c) ++ ds.map (sendDebt c)) (cond2_iff c)
    (dev2_dn c)) $$ [Ht1 Hr1 HO]
  · isplitr; · iexact HI
    isplitl [Ht1]; · iexact Ht1
    isplitl [Hr1]; · iexact Hr1
    iexact HO
  iintro ⟨Hr1, HO⟩
  iapply (signal_step m K c 2 ([3, 4, 5, 6].map (sigDebt c) ++ ds.map (sendDebt c)) (cond3_iff c)
    (dev3_dn c)) $$ [Ht2 Hr2 HO]
  · isplitr; · iexact HI
    isplitl [Ht2]; · iexact Ht2
    isplitl [Hr2]; · iexact Hr2
    iexact HO
  iintro ⟨Hr2, HO⟩
  iapply (signal_step m K c 3 ([4, 5, 6].map (sigDebt c) ++ ds.map (sendDebt c)) (cond4_iff c)
    (dev4_dn c)) $$ [Ht3 Hr3 HO]
  · isplitr; · iexact HI
    isplitl [Ht3]; · iexact Ht3
    isplitl [Hr3]; · iexact Hr3
    iexact HO
  iintro ⟨Hr3, HO⟩
  iapply (signal_step m K c 4 ([5, 6].map (sigDebt c) ++ ds.map (sendDebt c)) (cond5_iff c)
    (dev5_dn c)) $$ [Ht4 Hr4 HO]
  · isplitr; · iexact HI
    isplitl [Ht4]; · iexact Ht4
    isplitl [Hr4]; · iexact Hr4
    iexact HO
  iintro ⟨Hr4, HO⟩
  iapply (signal_step m K c 5 ([6].map (sigDebt c) ++ ds.map (sendDebt c)) (cond6_iff c)
    (dev6_dn c)) $$ [Ht5 Hr5 HO]
  · isplitr; · iexact HI
    isplitl [Ht5]; · iexact Ht5
    isplitl [Hr5]; · iexact Hr5
    iexact HO
  iintro ⟨Hr5, HO⟩
  rw [wp_ret]; imodintro
  iapply Hk
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  iexact HO

/-- The whole of a block. -/
abbrev rX : Rect S256x256 := Rect.unit (s := S256x256) ![0, 0] S256x256.size inb_S256x256_S256x256_0_0
/-- The whole of a row of totals. -/
abbrev rW : Rect S1x256 := Rect.unit (s := S1x256) ![0, 0] S1x256.size inb_S1x256_S1x256_0_0

/-- Reading all of the staged argument gives its contents. -/
theorem read_x (f : (cc0_stg0_0 : Ref sig .tc).ty.Contents (Elt F)) : (xM : Memref sig .tc .vmem S256x256 .bf16).view.readAt (Elt F) rX.toLoadRect f = f :=
  Memref.readAt_unit_zero (Elt F) cc0_stg0_0 hz _ f
/-- Writing all of the totals leaves what was written. -/
theorem write_tot (f w : (cc0_scratch0 : Ref sig .tc).ty.Contents (Elt F)) :
    ((wM : Memref sig .tc .vmem S1x256 .f32).access rW : View sig .tc _ _ _).write (Elt F) f w Finset.univ = w :=
  Memref.write_access_unit_zero_univ (Elt F) cc0_scratch0 hz _ f w
/-- Writing all of the result leaves what was written. -/
theorem write_out (f w : (cc0_stg1_0 : Ref sig .tc).ty.Contents (Elt F)) :
    ((oM : Memref sig .tc .vmem S256x256 .f32).access rX : View sig .tc _ _ _).write (Elt F) f w Finset.univ = w :=
  Memref.write_access_unit_zero_univ (Elt F) cc0_stg1_0 hz _ f w

/-- A whole buffer at some contents. -/
abbrev stgAny (c : Dev nD) (b : Ref sig .tc) : sProp 𝕄 := iprop(∃ f : Buf (Elt F) ((c : Thread nD τ).loc b), ((c : Thread nD τ).loc b) ↦{fullShare} f)
/-- The credit for one of the barrier's waits. -/
def barCred (d : Fin 7) (c : Dev nD) : sProp 𝕄 := cred (tallyAt (barCell c) () (if has d c then 1 else 0))

/-- The last signal, the block's totals and the first two waits on the barrier. -/
theorem part2 (v30 : BitVec 32) {Q : _ → sProp (MT nD τ sig Unit (Elt F) ℕ UU ℕ)} :
    iprop(recs m K ∗ levAts L lv ∗ sigIn 6 c ∗ (((c : Thread nD τ).loc cc0_stg0_0) ↦{fullShare} xstg m c) ∗ stgAny c cc0_scratch0
        ∗ barAt m c 0 ∗ barCred 0 c ∗ barCred 1 c ∗ owesE c (debt (sigDebt c 6 :: ds.map (sendDebt c))))
      ⊢ iprop((rowKept 6 c ∗ (((c : Thread nD τ).loc cc0_stg0_0) ↦{fullShare} xstg m c) ∗ (((c : Thread nD τ).loc cc0_scratch0) ↦{fullShare} tot m c)
            ∗ barAt m c 2 ∗ owesE c (debt (ds.map (sendDebt c)))
          -∗ Q ⟨k0_pay1 (xstg m c), Scalar.extui (Scalar.cmpi .slt (Scalar.addi (wv c) 3#32) 8#32), 0#32⟩)
        -∗ wp frame (wpE (defs₀ (F := F)) 𝒱₀ (c : Thread nD τ) none) Set.univ
          (k0_part2_skel xM (Memref.isWhole_whole _) oM (Memref.isWhole_whole _) wM (Memref.isWhole_whole _) vM (Memref.isWhole_whole _)
            cc0_scratch2 cc0_scratch3 c (wv c) (SemArray.scalar (sig.barrier 0 rfl)) v30) Q) := by
  unfold k0_part2_skel sigIn barCred
  simp (config := { zetaHave := false }) only [when_fold]
  simp only [lift_bind, Prog.pure_eq_ret]
  iintro ⟨#HI, #Hlev, ⟨Ht6, Hr6⟩, Hx, ⟨%f, Hw⟩, Hb, Hc0, Hc1, HO⟩ Hk
  iapply (signal_step m K c 6 (ds.map (sendDebt c)) (cond7_iff c)
    (dev7_dn c)) $$ [Ht6 Hr6 HO]
  · isplitr; · iexact HI
    isplitl [Ht6]; · iexact Ht6
    isplitl [Hr6]; · iexact Hr6
    iexact HO
  iintro ⟨Hr6, HO⟩
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_store 𝒱₀ (c : Thread nD τ) none Set.univ (m := wM) (r := rW) (Mk := Finset.univ) (Finset.subset_univ _)) $$ Hw; iintro Hw
  rw [write_tot]
  iapply (bar_step m K c 0 (later_iff c 0)) $$ [Hb Hc0 HO]
  · isplitr; · iexact HI
    isplitr; · iexact Hlev
    isplitl [Hb]; · iexact Hb
    isplitl [Hc0] <;> iassumption
  iintro ⟨Hb, HO⟩
  iapply (bar_step m K c 1 (later_iff c 1)) $$ [Hb Hc1 HO]
  · isplitr; · iexact HI
    isplitr; · iexact Hlev
    isplitl [Hb]; · iexact Hb
    isplitl [Hc1] <;> iassumption
  iintro ⟨Hb, HO⟩
  rw [wp_ret]; imodintro
  iapply Hk
  isplitl [Hr6]; · iexact Hr6
  isplitl [Hx]; · iexact Hx
  isplitl [Hw]; · iexact Hw
  isplitl [Hb]; · iexact Hb
  iexact HO

/-- What a send at one distance uses. -/
def sendIn (d : Fin 7) (c : Dev nD) : sProp 𝕄 :=
  iprop(dutyTok ER (sendCell d c) 0 d ∗ dutyTok ER (recvCell d (up d c)) 0 d ∗ totPts m (piece d) c)

/-- Seven resources, one for each distance, one by one. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL ([0, 1, 2, 3, 4, 5, 6] : List (Fin 7)) (by decide) (by decide) Φ

/-- The other waits on the barrier, which then closes, and the first three sends. -/
theorem part3 {Q : _ → sProp (MT nD τ sig Unit (Elt F) ℕ UU ℕ)} :
    iprop(recs m K ∗ levAts L lv ∗ barAt m c 2 ∗ barCred 2 c ∗ barCred 3 c ∗ barCred 4 c ∗ barCred 5 c ∗ barCred 6 c
        ∗ sendIn m 0 c ∗ sendIn m 1 c ∗ sendIn m 2 c ∗ owesE c (debt (ds.map (sendDebt c))))
      ⊢ iprop((semVal (barCell c) 0 ∗ rowLent 3 c ∗ rowLent 4 c ∗ rowLent 5 c ∗ rowLent 6 c ∗ sendOut m 0 c ∗ sendOut m 1 c ∗ sendOut m 2 c
            ∗ owesE c (debt ([3, 4, 5, 6].map (sendDebt c)))
          -∗ Q (Scalar.addi (wv c) 4#32))
        -∗ wp frame (wpE (defs₀ (F := F)) 𝒱₀ (c : Thread nD τ) none) Set.univ
          (k0_part3_skel xM (Memref.isWhole_whole _) oM (Memref.isWhole_whole _) wM (Memref.isWhole_whole _) vM (Memref.isWhole_whole _)
            cc0_scratch2 cc0_scratch3 c (wv c) (SemArray.scalar (sig.barrier 0 rfl))
            (Scalar.extui (Scalar.cmpi .slt (Scalar.addi (wv c) 3#32) 8#32)) 0#32) Q) := by
  unfold k0_part3_skel sendIn barCred
  simp (config := { zetaHave := false }) only [when_fold]
  simp only [lift_bind, Prog.pure_eq_ret]
  iintro ⟨#HI, #Hlev, Hb, Hc2, Hc3, Hc4, Hc5, Hc6, ⟨Hs0, Hv0, Hp0⟩, ⟨Hs1, Hv1, Hp1⟩, ⟨Hs2, Hv2, Hp2⟩, HO⟩ Hk
  iapply (bar_step m K c 2 (later_iff c 2)) $$ [Hb Hc2 HO]
  · isplitr; · iexact HI
    isplitr; · iexact Hlev
    isplitl [Hb]; · iexact Hb
    isplitl [Hc2] <;> iassumption
  iintro ⟨Hb, HO⟩
  iapply (bar_step m K c 3 (later_iff c 3)) $$ [Hb Hc3 HO]
  · isplitr; · iexact HI
    isplitr; · iexact Hlev
    isplitl [Hb]; · iexact Hb
    isplitl [Hc3] <;> iassumption
  iintro ⟨Hb, HO⟩
  iapply (bar_step m K c 4 (later_iff c 4)) $$ [Hb Hc4 HO]
  · isplitr; · iexact HI
    isplitr; · iexact Hlev
    isplitl [Hb]; · iexact Hb
    isplitl [Hc4] <;> iassumption
  iintro ⟨Hb, HO⟩
  iapply (bar_step m K c 5 (later_iff c 5)) $$ [Hb Hc5 HO]
  · isplitr; · iexact HI
    isplitr; · iexact Hlev
    isplitl [Hb]; · iexact Hb
    isplitl [Hc5] <;> iassumption
  iintro ⟨Hb, HO⟩
  iapply (bar_step m K c 6 (later_iff c 6)) $$ [Hb Hc6 HO]
  · isplitr; · iexact HI
    isplitr; · iexact Hlev
    isplitl [Hb]; · iexact Hb
    isplitl [Hc6] <;> iassumption
  iintro ⟨Hb, HO⟩
  imod (bar_close m K c) $$ [Hb] with ⟨Hz, Hrows⟩
  · isplitr; · iexact HI
    iexact Hb
  ihave Hrows := (Entails.of_eq (seven _)) $$ Hrows
  icases Hrows with ⟨Hr0, Hr1, Hr2, Hr3, Hr4, Hr5, Hr6⟩
  iapply (send_step m K c 0 ([1, 2, 3, 4, 5, 6].map (sendDebt c)) (cond15_iff c) (dev8_up c) (semAt_send 0) (semAt_recv 0) (src := totM) (dst := rowM 0) rfl rfl)
    $$ [Hs0 Hv0 Hr0 Hp0 HO]
  · isplitr; · iexact HI
    isplitl [Hs0]; · iexact Hs0
    isplitl [Hv0]; · iexact Hv0
    isplitl [Hr0]; · iexact Hr0
    isplitl [Hp0]; · iexact Hp0
    iexact HO
  iintro ⟨Ho0, HO⟩
  iapply (send_step m K c 1 ([2, 3, 4, 5, 6].map (sendDebt c)) (cond16_iff c) (dev9_up c) (semAt_send 1) (semAt_recv 1) (src := totM) (dst := rowM 1) rfl rfl)
    $$ [Hs1 Hv1 Hr1 Hp1 HO]
  · isplitr; · iexact HI
    isplitl [Hs1]; · iexact Hs1
    isplitl [Hv1]; · iexact Hv1
    isplitl [Hr1]; · iexact Hr1
    isplitl [Hp1]; · iexact Hp1
    iexact HO
  iintro ⟨Ho1, HO⟩
  iapply (send_step m K c 2 ([3, 4, 5, 6].map (sendDebt c)) (cond17_iff c) (dev10_up c) (semAt_send 2) (semAt_recv 2) (src := totM) (dst := rowM 2) rfl rfl)
    $$ [Hs2 Hv2 Hr2 Hp2 HO]
  · isplitr; · iexact HI
    isplitl [Hs2]; · iexact Hs2
    isplitl [Hv2]; · iexact Hv2
    isplitl [Hr2]; · iexact Hr2
    isplitl [Hp2]; · iexact Hp2
    iexact HO
  iintro ⟨Ho2, HO⟩
  rw [wp_ret]; imodintro
  iapply Hk
  isplitl [Hz]; · iexact Hz
  isplitl [Hr3]; · iexact Hr3
  isplitl [Hr4]; · iexact Hr4
  isplitl [Hr5]; · iexact Hr5
  isplitl [Hr6]; · iexact Hr6
  isplitl [Ho0]; · iexact Ho0
  isplitl [Ho1]; · iexact Ho1
  isplitl [Ho2] <;> iassumption

/-- The other four sends. -/
theorem part4 (v102 : BitVec 32) {Q : _ → sProp (MT nD τ sig Unit (Elt F) ℕ UU ℕ)} :
    iprop(recs m K ∗ rowLent 3 c ∗ rowLent 4 c ∗ rowLent 5 c ∗ rowLent 6 c ∗ sendIn m 3 c ∗ sendIn m 4 c ∗ sendIn m 5 c ∗ sendIn m 6 c
        ∗ owesE c (debt ([3, 4, 5, 6].map (sendDebt c))))
      ⊢ iprop((sendOut m 3 c ∗ sendOut m 4 c ∗ sendOut m 5 c ∗ sendOut m 6 c ∗ owesE c 0 -∗ Q (k0_pay3 (k0_pay1 (xstg m c))))
        -∗ wp frame (wpE (defs₀ (F := F)) 𝒱₀ (c : Thread nD τ) none) Set.univ
          (k0_part4_skel xM (Memref.isWhole_whole _) oM (Memref.isWhole_whole _) wM (Memref.isWhole_whole _) vM (Memref.isWhole_whole _)
            cc0_scratch2 cc0_scratch3 c (wv c) (k0_pay1 (xstg m c)) v102) Q) := by
  unfold k0_part4_skel sendIn
  simp (config := { zetaHave := false }) only [when_fold]
  simp only [lift_bind, Prog.pure_eq_ret]
  iintro ⟨#HI, Hr3, Hr4, Hr5, Hr6, ⟨Hs3, Hv3, Hp3⟩, ⟨Hs4, Hv4, Hp4⟩, ⟨Hs5, Hv5, Hp5⟩, ⟨Hs6, Hv6, Hp6⟩, HO⟩ Hk
  iapply (send_step m K c 3 ([4, 5, 6].map (sendDebt c)) (cond18_iff c) (dev11_up c) (semAt_send 3) (semAt_recv 3) (src := totM) (dst := rowM 3) rfl rfl)
    $$ [Hs3 Hv3 Hr3 Hp3 HO]
  · isplitr; · iexact HI
    isplitl [Hs3]; · iexact Hs3
    isplitl [Hv3]; · iexact Hv3
    isplitl [Hr3]; · iexact Hr3
    isplitl [Hp3]; · iexact Hp3
    iexact HO
  iintro ⟨Ho3, HO⟩
  iapply (send_step m K c 4 ([5, 6].map (sendDebt c)) (cond19_iff c) (dev12_up c) (semAt_send 4) (semAt_recv 4) (src := totM) (dst := rowM 4) rfl rfl)
    $$ [Hs4 Hv4 Hr4 Hp4 HO]
  · isplitr; · iexact HI
    isplitl [Hs4]; · iexact Hs4
    isplitl [Hv4]; · iexact Hv4
    isplitl [Hr4]; · iexact Hr4
    isplitl [Hp4]; · iexact Hp4
    iexact HO
  iintro ⟨Ho4, HO⟩
  iapply (send_step m K c 5 ([6].map (sendDebt c)) (cond20_iff c) (dev13_up c) (semAt_send 5) (semAt_recv 5) (src := totM) (dst := rowM 5) rfl rfl)
    $$ [Hs5 Hv5 Hr5 Hp5 HO]
  · isplitr; · iexact HI
    isplitl [Hs5]; · iexact Hs5
    isplitl [Hv5]; · iexact Hv5
    isplitl [Hr5]; · iexact Hr5
    isplitl [Hp5]; · iexact Hp5
    iexact HO
  iintro ⟨Ho5, HO⟩
  iapply (send_step m K c 6 ([].map (sendDebt c)) (cond21_iff c) (dev14_up c) (semAt_send 6) (semAt_recv 6) (src := totM) (dst := rowM 6) rfl rfl)
    $$ [Hs6 Hv6 Hr6 Hp6 HO]
  · isplitr; · iexact HI
    isplitl [Hs6]; · iexact Hs6
    isplitl [Hv6]; · iexact Hv6
    isplitl [Hr6]; · iexact Hr6
    isplitl [Hp6]; · iexact Hp6
    iexact HO
  iintro ⟨Ho6, HO⟩
  rw [wp_ret]; imodintro
  iapply Hk
  isplitl [Ho3]; · iexact Ho3
  isplitl [Ho4]; · iexact Ho4
  isplitl [Ho5]; · iexact Ho5
  isplitl [Ho6]; · iexact Ho6
  iexact HO

/-- What the wait for one arrival uses. -/
def recvIn (d : Fin 7) (c : Dev nD) : sProp 𝕄 :=
  iprop(atPos ER (recvCell d c) 0 ∅ 0 ∗ cred (tallyAt (recvCell d c) () (if got d c then N else 0)) ∗ rowKept d c)
/-- What is left of an arrival: the closed semaphore and the row. -/
def recvOut (d : Fin 7) (c : Dev nD) : sProp 𝕄 := iprop(semVal (recvCell d c) 0 ∗ rowAny d c)
/-- A row of totals read from the receive buffer: an earlier device's, if there is one at that distance. -/
def isRow (d : Fin 7) (c : Dev nD) (g : Vec F S1x256 .f32) : Prop := got d c → g = tot m (dn d c)

/-- Reading a row of the receive buffer. -/
theorem load_row (d : Fin 7) {off : Fin 2 → ℕ} {inb : ∀ a, off a + S1x256.size a ≤ S8x256.size a} (ho : off = ![d.val + 1, 0])
    {hl : (vM : Memref sig .tc .vmem S8x256 .f32).view.LoadsAt (Rect.unit (s := S8x256) off S1x256.size inb).toLoadRect}
    {α : Type} {Q : α → sProp (MT nD τ sig Unit (Elt F) ℕ UU ℕ)} {k : Vec F S1x256 .f32 → Prog (TpuEff nD τ sig (Elt F) Λ₀ .tc) α} :
    rowIn m d c ⊢ iprop((∀ g, ⌜isRow m d c g⌝ ∗ rowAny d c -∗ wp frame (wpE (defs₀ (F := F)) 𝒱₀ (c : Thread nD τ) none) Set.univ (k g) Q)
      -∗ wp frame (wpE (defs₀ (F := F)) 𝒱₀ (c : Thread nD τ) none) Set.univ
        (.op (.load vM (Rect.unit (s := S8x256) off S1x256.size inb).toLoadRect hl) k) Q) := by
  subst ho
  unfold rowIn rowAny rowPts
  iintro ⟨%f, %hf, H⟩ Hk
  iapply (wp_load_rect 𝒱₀ (c : Thread nD τ) none Set.univ (m := vM) (r := rowR d) (Finset.Subset.refl _)) $$ H; iintro H
  iapply Hk
  isplitr; · ipureintro; exact hf
  iexists f; iexact H

/-- The arrivals from the three nearest earlier devices. -/
theorem part5 (y : FVec F S256x256 .f32) {Q : _ → sProp (MT nD τ sig Unit (Elt F) ℕ UU ℕ)} :
    iprop(recs m K ∗ recvIn 0 c ∗ recvIn 1 c ∗ recvIn 2 c ∗ owesE c 0)
      ⊢ iprop((∀ g0 g1 g2, ⌜isRow m 0 c g0 ∧ isRow m 1 c g1 ∧ isRow m 2 c g2⌝ ∗ recvOut 0 c ∗ recvOut 1 c ∗ recvOut 2 c ∗ owesE c 0
          -∗ Q ⟨k0_pay4 y, k0_pay5 (wv c) g0 g1, g2, Scalar.cmpi .sge (wv c) 3#32, Scalar.ofBits .f32 0x3F800000#32⟩)
        -∗ wp frame (wpE (defs₀ (F := F)) 𝒱₀ (c : Thread nD τ) none) Set.univ
          (k0_part5_skel xM (Memref.isWhole_whole _) oM (Memref.isWhole_whole _) wM (Memref.isWhole_whole _) vM (Memref.isWhole_whole _)
            cc0_scratch2 cc0_scratch3 (wv c) y) Q) := by
  unfold k0_part5_skel recvIn recvOut
  apply wp_prog
  · exact peel (peel_op fun _ => peel (peel_op fun _ => peel (peel_op fun _ => Prog.pure_eq_ret _)))
  iintro ⟨#HI, ⟨Ha0, Hc0, Hr0⟩, ⟨Ha1, Hc1, Hr1⟩, ⟨Ha2, Hc2, Hr2⟩, HO⟩ Hk
  iapply (recv_step m K c 0 (earlier_iff c 0) (semAt_recv 0) (dst := rowM 0) rfl) $$ [Ha0 Hc0 Hr0 HO]
  · isplitr; · iexact HI
    isplitl [Ha0]; · iexact Ha0
    isplitl [Hc0]; · iexact Hc0
    isplitl [Hr0] <;> iassumption
  iintro ⟨Hz0, Hr0, HO⟩
  iapply (load_row m c 0 rfl) $$ Hr0
  iintro %g0 ⟨%hg0, Hr0⟩
  iapply (recv_step m K c 1 (earlier_iff c 1) (semAt_recv 1) (dst := rowM 1) rfl) $$ [Ha1 Hc1 Hr1 HO]
  · isplitr; · iexact HI
    isplitl [Ha1]; · iexact Ha1
    isplitl [Hc1]; · iexact Hc1
    isplitl [Hr1] <;> iassumption
  iintro ⟨Hz1, Hr1, HO⟩
  iapply (load_row m c 1 rfl) $$ Hr1
  iintro %g1 ⟨%hg1, Hr1⟩
  iapply (recv_step m K c 2 (earlier_iff c 2) (semAt_recv 2) (dst := rowM 2) rfl) $$ [Ha2 Hc2 Hr2 HO]
  · isplitr; · iexact HI
    isplitl [Ha2]; · iexact Ha2
    isplitl [Hc2]; · iexact Hc2
    isplitl [Hr2] <;> iassumption
  iintro ⟨Hz2, Hr2, HO⟩
  iapply (load_row m c 2 rfl) $$ Hr2
  iintro %g2 ⟨%hg2, Hr2⟩
  rw [wp_ret]; imodintro
  iapply Hk
  isplitr; · ipureintro; exact ⟨hg0, hg1, hg2⟩
  isplitl [Hz0 Hr0]; · isplitl [Hz0] <;> iassumption
  isplitl [Hz1 Hr1]; · isplitl [Hz1] <;> iassumption
  isplitl [Hz2 Hr2]; · isplitl [Hz2] <;> iassumption
  iexact HO

/-- The arrivals from the next three. -/
theorem part6 (acc : FVec F S1x256 .f32) (g2 : Vec F S1x256 .f32) (b : BitVec 1) (one : F .f32)
    {Q : _ → sProp (MT nD τ sig Unit (Elt F) ℕ UU ℕ)} :
    iprop(recs m K ∗ recvIn 3 c ∗ recvIn 4 c ∗ recvIn 5 c ∗ owesE c 0)
      ⊢ iprop((∀ g3 g4 g5, ⌜isRow m 3 c g3 ∧ isRow m 4 c g4 ∧ isRow m 5 c g5⌝ ∗ recvOut 3 c ∗ recvOut 4 c ∗ recvOut 5 c ∗ owesE c 0
          -∗ Q ⟨k0_pay6 (wv c) acc g2 b one g3 g4 g5, Scalar.extui (Scalar.cmpi .sge (Scalar.subi (wv c) 7#32) 0#32), 0#32⟩)
        -∗ wp frame (wpE (defs₀ (F := F)) 𝒱₀ (c : Thread nD τ) none) Set.univ
          (k0_part6_skel xM (Memref.isWhole_whole _) oM (Memref.isWhole_whole _) wM (Memref.isWhole_whole _) vM (Memref.isWhole_whole _)
            cc0_scratch2 cc0_scratch3 (wv c) acc g2 b one) Q) := by
  unfold k0_part6_skel recvIn recvOut
  apply wp_prog
  · exact peel (peel_op fun _ => peel (peel_op fun _ => peel (peel_op fun _ => Prog.pure_eq_ret _)))
  iintro ⟨#HI, ⟨Ha3, Hc3, Hr3⟩, ⟨Ha4, Hc4, Hr4⟩, ⟨Ha5, Hc5, Hr5⟩, HO⟩ Hk
  iapply (recv_step m K c 3 (earlier_iff c 3) (semAt_recv 3) (dst := rowM 3) rfl) $$ [Ha3 Hc3 Hr3 HO]
  · isplitr; · iexact HI
    isplitl [Ha3]; · iexact Ha3
    isplitl [Hc3]; · iexact Hc3
    isplitl [Hr3] <;> iassumption
  iintro ⟨Hz3, Hr3, HO⟩
  iapply (load_row m c 3 rfl) $$ Hr3
  iintro %g3 ⟨%hg3, Hr3⟩
  iapply (recv_step m K c 4 (earlier_iff c 4) (semAt_recv 4) (dst := rowM 4) rfl) $$ [Ha4 Hc4 Hr4 HO]
  · isplitr; · iexact HI
    isplitl [Ha4]; · iexact Ha4
    isplitl [Hc4]; · iexact Hc4
    isplitl [Hr4] <;> iassumption
  iintro ⟨Hz4, Hr4, HO⟩
  iapply (load_row m c 4 rfl) $$ Hr4
  iintro %g4 ⟨%hg4, Hr4⟩
  iapply (recv_step m K c 5 (earlier_iff c 5) (semAt_recv 5) (dst := rowM 5) rfl) $$ [Ha5 Hc5 Hr5 HO]
  · isplitr; · iexact HI
    isplitl [Ha5]; · iexact Ha5
    isplitl [Hc5]; · iexact Hc5
    isplitl [Hr5] <;> iassumption
  iintro ⟨Hz5, Hr5, HO⟩
  iapply (load_row m c 5 rfl) $$ Hr5
  iintro %g5 ⟨%hg5, Hr5⟩
  rw [wp_ret]; imodintro
  iapply Hk
  isplitr; · ipureintro; exact ⟨hg3, hg4, hg5⟩
  isplitl [Hz3 Hr3]; · isplitl [Hz3] <;> iassumption
  isplitl [Hz4 Hr4]; · isplitl [Hz4] <;> iassumption
  isplitl [Hz5 Hr5]; · isplitl [Hz5] <;> iassumption
  iexact HO

/-- What the wait for one send uses. -/
def sentIn (d : Fin 7) (c : Dev nD) : sProp 𝕄 := iprop(atPos ER (sendCell d c) 0 ∅ 0 ∗ sendOut m d c)
/-- What is left of a send: the closed semaphore and the share of the totals. -/
def sentOut (d : Fin 7) (c : Dev nD) : sProp 𝕄 := iprop(semVal (sendCell d c) 0 ∗ totPts m (piece d) c)

/-- The last arrival, the result, and the waits for the first five sends. -/
theorem part7 (y : FVec F S256x256 .f32) (acc : FVec F S1x256 .f32) {Q : _ → sProp (MT nD τ sig Unit (Elt F) ℕ UU ℕ)} :
    iprop(recs m K ∗ recvIn 6 c ∗ stgAny c cc0_stg1_0 ∗ sentIn m 0 c ∗ sentIn m 1 c ∗ sentIn m 2 c ∗ sentIn m 3 c ∗ sentIn m 4 c ∗ owesE c 0)
      ⊢ iprop((∀ g6, ⌜isRow m 6 c g6⌝ ∗ recvOut 6 c ∗ (((c : Thread nD τ).loc cc0_stg1_0) ↦{fullShare} k0_pay7 (wv c) y acc g6)
            ∗ sentOut m 0 c ∗ sentOut m 1 c ∗ sentOut m 2 c ∗ sentOut m 3 c ∗ sentOut m 4 c ∗ owesE c 0
          -∗ Q ⟨Scalar.addi (wv c) 6#32, 8#32⟩)
        -∗ wp frame (wpE (defs₀ (F := F)) 𝒱₀ (c : Thread nD τ) none) Set.univ
          (k0_part7_skel xM (Memref.isWhole_whole _) oM (Memref.isWhole_whole _) wM (Memref.isWhole_whole _) vM (Memref.isWhole_whole _)
            cc0_scratch2 cc0_scratch3 (wv c) y acc (Scalar.extui (Scalar.cmpi .sge (Scalar.subi (wv c) 7#32) 0#32)) 0#32) Q) := by
  unfold k0_part7_skel recvIn recvOut sentIn sentOut
  apply wp_prog
  · exact peel (peel_op fun _ => peel_op fun _ => peel_op fun _ => peel (peel (peel (peel (peel (Prog.pure_eq_ret _))))))
  iintro ⟨#HI, ⟨Ha6, Hc6, Hr6⟩, ⟨%fo, Ho⟩, ⟨Ha0, Hs0⟩, ⟨Ha1, Hs1⟩, ⟨Ha2, Hs2⟩, ⟨Ha3, Hs3⟩, ⟨Ha4, Hs4⟩, HO⟩ Hk
  iapply (recv_step m K c 6 (earlier_iff c 6) (semAt_recv 6) (dst := rowM 6) rfl) $$ [Ha6 Hc6 Hr6 HO]
  · isplitr; · iexact HI
    isplitl [Ha6]; · iexact Ha6
    isplitl [Hc6]; · iexact Hc6
    isplitl [Hr6] <;> iassumption
  iintro ⟨Hz6, Hr6, HO⟩
  iapply (load_row m c 6 rfl) $$ Hr6
  iintro %g6 ⟨%hg6, Hr6⟩
  iapply (wp_load 𝒱₀ (c : Thread nD τ) none Set.univ (m := oM) (Finset.subset_univ _)) $$ Ho; iintro Ho
  iapply (wp_store 𝒱₀ (c : Thread nD τ) none Set.univ (m := oM) (r := rX) (Mk := Finset.univ) (Finset.subset_univ _)) $$ Ho; iintro Ho
  rw [write_out]
  iapply (sent_step m K c 0 (later_iff c 0) (semAt_send 0) (dst := totM) rfl) $$ [Ha0 Hs0 HO]
  · isplitr; · iexact HI
    isplitl [Ha0]; · iexact Ha0
    isplitl [Hs0] <;> iassumption
  iintro ⟨Hz0, Hs0, HO⟩
  iapply (sent_step m K c 1 (later_iff c 1) (semAt_send 1) (dst := totM) rfl) $$ [Ha1 Hs1 HO]
  · isplitr; · iexact HI
    isplitl [Ha1]; · iexact Ha1
    isplitl [Hs1] <;> iassumption
  iintro ⟨Hz1, Hs1, HO⟩
  iapply (sent_step m K c 2 (later_iff c 2) (semAt_send 2) (dst := totM) rfl) $$ [Ha2 Hs2 HO]
  · isplitr; · iexact HI
    isplitl [Ha2]; · iexact Ha2
    isplitl [Hs2] <;> iassumption
  iintro ⟨Hz2, Hs2, HO⟩
  iapply (sent_step m K c 3 (later_iff c 3) (semAt_send 3) (dst := totM) rfl) $$ [Ha3 Hs3 HO]
  · isplitr; · iexact HI
    isplitl [Ha3]; · iexact Ha3
    isplitl [Hs3] <;> iassumption
  iintro ⟨Hz3, Hs3, HO⟩
  iapply (sent_step m K c 4 (later_iff c 4) (semAt_send 4) (dst := totM) rfl) $$ [Ha4 Hs4 HO]
  · isplitr; · iexact HI
    isplitl [Ha4]; · iexact Ha4
    isplitl [Hs4] <;> iassumption
  iintro ⟨Hz4, Hs4, HO⟩
  rw [wp_ret]; imodintro
  iapply Hk
  isplitr; · ipureintro; exact hg6
  isplitl [Hz6 Hr6]; · isplitl [Hz6] <;> iassumption
  isplitl [Ho]; · iexact Ho
  isplitl [Hz0 Hs0]; · isplitl [Hz0] <;> iassumption
  isplitl [Hz1 Hs1]; · isplitl [Hz1] <;> iassumption
  isplitl [Hz2 Hs2]; · isplitl [Hz2] <;> iassumption
  isplitl [Hz3 Hs3]; · isplitl [Hz3] <;> iassumption
  isplitl [Hz4 Hs4]; · isplitl [Hz4] <;> iassumption
  iexact HO

end Cert.KernelIdeal.Scan

end
-- ==== Proof.WholeI.lean ====
/-
  The body of the sharded running product as a whole: its parts one after another, with the two scratch buffers cut into
  the pieces that the devices hand to one another and put together again.
-/
module

public import proofs.«01_k».proof.Proof.BodyI

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

/-! ## The two scratch buffers, cut into what the protocol hands around -/

/-- The transfers' source is the whole buffer of totals. -/
theorem totM_set : (totM : Memref sig .tc .vmem S1x256 .f32).view.set = Finset.univ := by
  rw [show (totM : Memref sig .tc .vmem S1x256 .f32).view.set = (rW : Rect S1x256).set from View.set_slice_whole _ _]
  refine Finset.eq_univ_of_forall fun i => Rect.mem_set_unit.mpr fun a => ?_
  have h := (i a).isLt
  fin_cases a
  · exact ⟨Nat.zero_le _, by simpa using h⟩
  · exact ⟨Nat.zero_le _, by simpa using h⟩

/-- A share of the totals is a share of the whole buffer. -/
theorem totPts_eq (q : PosShare TreeShare) : totPts m q c = (((c : Thread nD τ).loc cc0_scratch0) ↦{q} tot m c) := by
  unfold totPts; rw [totM_set]

/-- The totals, dealt into one share for each transfer and a rest. -/
theorem tot_split : (((c : Thread nD τ).loc cc0_scratch0) ↦{fullShare} tot m c : sProp 𝕄)
    ⊢ iprop(totPts m (shareDrop fullShare 7) c ∗ bigSep Finset.univ fun d : Fin 7 => totPts m (piece d) c) := by
  simp only [totPts_eq]
  exact pointsTo_toks_split fullShare 7
/-- The shares of the totals, joined. -/
theorem tot_join : iprop(totPts m (shareDrop fullShare 7) c ∗ bigSep Finset.univ fun d : Fin 7 => totPts m (piece d) c)
    ⊢ (((c : Thread nD τ).loc cc0_scratch0) ↦{fullShare} tot m c : sProp 𝕄) := by
  simp only [totPts_eq]
  exact pointsTo_toks_join fullShare 7

/-- Every row lies in the receive buffer. -/
theorem rowAt_inb (b : Fin 8) : ∀ a : Fin 2, (![b.val, 0] : Fin 2 → ℕ) a + S1x256.size a ≤ S8x256.size a := by
  revert b; decide
/-- The elements of one row of the receive buffer. -/
def rowSet (b : Fin 8) : Finset S8x256.Idx := (Rect.unit (s := S8x256) ![b.val, 0] S1x256.size (rowAt_inb b)).set

/-- A row is the elements with its number as first coordinate. -/
theorem mem_rowSet (b : Fin 8) (i : S8x256.Idx) : i ∈ rowSet b ↔ (i 0).val = b.val := by
  unfold rowSet
  rw [Rect.mem_set_unit]
  constructor
  · intro h
    have h0 := h 0
    simp at h0
    omega
  · intro h a
    have h1 := (i 1).isLt
    fin_cases a
    · simp; omega
    · exact ⟨Nat.zero_le _, by simpa using h1⟩

/-- Different rows have no element in common. -/
theorem rowSet_disj (b b' : Fin 8) (h : b ≠ b') : Disjoint (rowSet b) (rowSet b') :=
  Finset.disjoint_left.mpr fun i hi hi' => h (Fin.ext (((mem_rowSet b i).mp hi).symm.trans ((mem_rowSet b' i).mp hi')))
/-- The rows are the whole receive buffer. -/
theorem rowSet_cover : Finset.univ.biUnion rowSet = Finset.univ :=
  Finset.eq_univ_of_forall fun i => Finset.mem_biUnion.mpr ⟨i 0, Finset.mem_univ _, (mem_rowSet _ i).mpr rfl⟩

/-- The rows that transfers write are those after the first. -/
theorem rowM_set (d : Fin 7) : (rowM d).view.set = rowSet d.succ := View.set_slice_whole _ _

/-- The first row of the receive buffer, which no transfer writes. -/
def rowFirst (c : Dev nD) : sProp 𝕄 :=
  iprop(∃ f : Buf (Elt F) ((c : Thread nD τ).loc cc0_scratch1), ((c : Thread nD τ).loc cc0_scratch1) ↦[rowSet 0]{fullShare} f)

/-- Eight resources: the first, and one for each distance. -/
theorem eight (Φ : Fin 8 → sProp 𝕄) : bigSep Finset.univ Φ = iprop(Φ 0 ∗ bigSep Finset.univ fun d : Fin 7 => Φ d.succ) := by
  rw [seven]
  exact bigSep_univ_eq_bigSepL ([0, 1, 2, 3, 4, 5, 6, 7] : List (Fin 8)) (by decide) (by decide) Φ

/-- A row at some contents, by its set of elements. -/
theorem rowAny_eq (d : Fin 7) : rowAny (F := F) d c
    = iprop(∃ f : Buf (Elt F) ((c : Thread nD τ).loc cc0_scratch1), ((c : Thread nD τ).loc cc0_scratch1) ↦[rowSet d.succ]{fullShare} f) := by
  unfold rowAny rowPts; rw [rowM_set]

/-- A step taken for every member of a family. -/
theorem each {ι : Type} [Fintype ι] {A B : ι → sProp (MT nD τ sig Unit (Elt F) ℕ UU ℕ)} (h : ∀ d, A d ⊢ B d) :
    (bigSep Finset.univ fun d => A d) ⊢ bigSep Finset.univ fun d => B d := bigSep_mono fun d _ => h d
/-- A step from two families together, taken for every member. -/
theorem each₂ {ι : Type} [Fintype ι] {A B C : ι → sProp (MT nD τ sig Unit (Elt F) ℕ UU ℕ)} (h : ∀ d, iprop(A d ∗ B d) ⊢ C d) :
    iprop((bigSep Finset.univ fun d => A d) ∗ bigSep Finset.univ fun d => B d) ⊢ bigSep Finset.univ fun d => C d := by
  rw [← bigSep_sep']; exact bigSep_mono fun d _ => h d
/-- A buffer at known contents is one at some contents. -/
theorem at_some {ℓ : Loc nD τ sig} {S : Finset (Idx ℓ)} (f : Buf (Elt F) ℓ) :
    (ℓ ↦[S]{fullShare} f : sProp 𝕄) ⊢ iprop(∃ f : Buf (Elt F) ℓ, ℓ ↦[S]{fullShare} f) := by
  iintro H; iexists f; iexact H

/-- The receive buffer, row by row. -/
theorem rows_split : stgAny (F := F) c cc0_scratch1 ⊢ iprop(rowFirst c ∗ bigSep Finset.univ fun d : Fin 7 => rowAny d c) := by
  simp only [rowAny_eq]
  unfold rowFirst
  rw [← eight (fun b => iprop(∃ f : Buf (Elt F) ((c : Thread nD τ).loc cc0_scratch1), ((c : Thread nD τ).loc cc0_scratch1) ↦[rowSet b]{fullShare} f))]
  iintro ⟨%f, H⟩
  ihave H := (Entails.of_eq (Ring.pointsTo_blocks (ℓ := (c : Thread nD τ).loc cc0_scratch1) rowSet rowSet_disj rowSet_cover f)) $$ H
  iapply (each fun b => at_some f) $$ H
/-- Its rows, joined. -/
theorem rows_join : iprop(rowFirst c ∗ bigSep Finset.univ fun d : Fin 7 => rowAny d c) ⊢ stgAny (F := F) c cc0_scratch1 := by
  simp only [rowAny_eq]
  unfold rowFirst
  rw [← eight (fun b => iprop(∃ f : Buf (Elt F) ((c : Thread nD τ).loc cc0_scratch1), ((c : Thread nD τ).loc cc0_scratch1) ↦[rowSet b]{fullShare} f))]
  exact Ring.pointsTo_blocks_join_exists (ℓ := (c : Thread nD τ).loc cc0_scratch1) rowSet rowSet_disj rowSet_cover
    (fun _ => (Scalar.ofBits .f32 0#32 : F .f32))

/-! ## The whole body -/

/-- The result of one device, from its block and the rows of totals it read. -/
def outOf (x : (cc0_stg0_0 : Ref sig .tc).ty.Contents (Elt F)) (g : Fin 7 → Vec F S1x256 .f32) : (cc0_stg1_0 : Ref sig .tc).ty.Contents (Elt F) :=
  k0_pay7 (wv c) (k0_pay4 (k0_pay3 (k0_pay1 x)))
    (k0_pay6 (wv c) (k0_pay5 (wv c) (g 0) (g 1)) (g 2) (Scalar.cmpi .sge (wv c) 3#32) (Scalar.ofBits .f32 0x3F800000#32) (g 3) (g 4) (g 5)) (g 6)

/-- The tokens for one send. -/
def sendTok (d : Fin 7) (c : Dev nD) : sProp 𝕄 := iprop(dutyTok ER (sendCell d c) 0 d ∗ dutyTok ER (recvCell d (up d c)) 0 d)
/-- The position at one arrival and the credit for it. -/
def recvAt (d : Fin 7) (c : Dev nD) : sProp 𝕄 :=
  iprop(atPos ER (recvCell d c) 0 ∅ 0 ∗ cred (tallyAt (recvCell d c) () (if got d c then N else 0)))
/-- The position at one send. -/
def sendAt (d : Fin 7) (c : Dev nD) : sProp 𝕄 := atPos ER (sendCell d c) 0 ∅ 0
/-- The token for one signal. -/
def sigTok (d : Fin 7) (c : Dev nD) : sProp 𝕄 := dutyTok ER (barCell (dn d c)) 0 d

/-- What a signal uses, put together. -/
theorem sigIn_intro (d : Fin 7) : iprop(sigTok d c ∗ rowAny d c) ⊢ sigIn (F := F) d c := by unfold sigIn sigTok; exact Entails.rfl
/-- What a send uses, put together. -/
theorem sendIn_intro (d : Fin 7) : iprop(sendTok d c ∗ totPts m (piece d) c) ⊢ sendIn m d c := by
  unfold sendIn sendTok; iintro ⟨⟨Ha, Hb⟩, Hc⟩
  isplitl [Ha]; · iexact Ha
  isplitl [Hb] <;> iassumption
/-- What the wait for an arrival uses, put together. -/
theorem recvIn_intro (d : Fin 7) : iprop(recvAt d c ∗ rowKept d c) ⊢ recvIn (F := F) d c := by
  unfold recvIn recvAt; iintro ⟨⟨Ha, Hb⟩, Hc⟩
  isplitl [Ha]; · iexact Ha
  isplitl [Hb] <;> iassumption
/-- What the wait for a send uses, put together. -/
theorem sentIn_intro (d : Fin 7) : iprop(sendAt d c ∗ sendOut m d c) ⊢ sentIn m d c := by unfold sentIn sendAt; exact Entails.rfl

/-- The last two waits, for the sends at the two farthest distances. -/
theorem tail {p : Prog (TpuEff nD τ sig (Elt F) Λ₀ .tc) PUnit} {Q : PUnit → sProp (MT nD τ sig Unit (Elt F) ℕ UU ℕ)}
    (hp : p = when (later c 6#32) (fun _ => Prog.lift (.waitDma2 (semAt cc0_scratch2 5) (rowM 5) totM (View.wordExact_bits rfl) (View.wordExact_bits rfl)))
      (when (later c 7#32) (fun _ => Prog.lift (.waitDma2 (semAt cc0_scratch2 6) (rowM 6) totM (View.wordExact_bits rfl) (View.wordExact_bits rfl)))
        (.ret ⟨⟩))) :
    iprop(recs m K ∗ sentIn m 5 c ∗ sentIn m 6 c ∗ owesE c 0)
      ⊢ iprop((sentOut m 5 c ∗ sentOut m 6 c ∗ owesE c 0 -∗ Q ⟨⟩)
        -∗ wp frame (wpE (defs₀ (F := F)) 𝒱₀ (c : Thread nD τ) none) Set.univ p Q) := by
  subst hp
  unfold sentIn sentOut
  iintro ⟨#HI, ⟨Ha5, Hs5⟩, ⟨Ha6, Hs6⟩, HO⟩ Hk
  iapply (sent_step m K c 5 (later_iff c 5) (semAt_send 5) (dst := totM) rfl) $$ [Ha5 Hs5 HO]
  · isplitr; · iexact HI
    isplitl [Ha5]; · iexact Ha5
    isplitl [Hs5] <;> iassumption
  iintro ⟨Hz5, Hs5, HO⟩
  iapply (sent_step m K c 6 (later_iff c 6) (semAt_send 6) (dst := totM) rfl) $$ [Ha6 Hs6 HO]
  · isplitr; · iexact HI
    isplitl [Ha6]; · iexact Ha6
    isplitl [Hs6] <;> iassumption
  iintro ⟨Hz6, Hs6, HO⟩
  rw [wp_ret]; imodintro
  iapply Hk
  isplitl [Hz5 Hs5]; · isplitl [Hz5] <;> iassumption
  isplitl [Hz6 Hs6]; · isplitl [Hz6] <;> iassumption
  iexact HO

/-- After the waits for the arrivals: their semaphores closed, and all rows. -/
theorem recvOuts : (bigSep Finset.univ fun d : Fin 7 => recvOut (F := F) d c)
    = iprop((bigSep Finset.univ fun d : Fin 7 => semVal (recvCell d c) 0) ∗ bigSep Finset.univ fun d : Fin 7 => rowAny d c) := by
  unfold recvOut; exact bigSep_sep' _ _ _
/-- After the waits for the sends: their semaphores closed, and all shares of the totals. -/
theorem sentOuts : (bigSep Finset.univ fun d : Fin 7 => sentOut m d c)
    = iprop((bigSep Finset.univ fun d : Fin 7 => semVal (sendCell d c) 0) ∗ bigSep Finset.univ fun d : Fin 7 => totPts m (piece d) c) := by
  unfold sentOut; exact bigSep_sep' _ _ _

attribute [local irreducible] k0_part1_skel k0_part2_skel k0_part3_skel k0_part4_skel k0_part5_skel k0_part6_skel k0_part7_skel

set_option maxHeartbeats 800000 in
/-- The body: from the tokens, positions and credits of the start, with both scratch buffers, to closed semaphores, the
    buffers again and the result written. -/
theorem body {Q : PUnit → sProp (MT nD τ sig Unit (Elt F) ℕ UU ℕ)} :
    iprop(recs m K ∗ levAts L lv ∗ (bigSep Finset.univ fun d : Fin 7 => sigTok d c) ∗ (bigSep Finset.univ fun d : Fin 7 => sendTok d c)
        ∗ (bigSep Finset.univ fun d : Fin 7 => recvAt d c) ∗ (bigSep Finset.univ fun d : Fin 7 => sendAt d c)
        ∗ barAt m c 0 ∗ (bigSep Finset.univ fun d : Fin 7 => barCred d c)
        ∗ stgAny c cc0_scratch0 ∗ stgAny c cc0_scratch1
        ∗ (((c : Thread nD τ).loc cc0_stg0_0) ↦{fullShare} xstg m c) ∗ stgAny c cc0_stg1_0 ∗ owesE c (O₀ c))
      ⊢ iprop((∀ g : Fin 7 → Vec F S1x256 .f32, ⌜∀ d, isRow m d c (g d)⌝ ∗ semVal (barCell c) 0
            ∗ (bigSep Finset.univ fun d : Fin 7 => iprop(semVal (sendCell d c) 0 ∗ semVal (recvCell d c) 0))
            ∗ stgAny c cc0_scratch0 ∗ stgAny c cc0_scratch1
            ∗ (((c : Thread nD τ).loc cc0_stg0_0) ↦{fullShare} xstg m c) ∗ (((c : Thread nD τ).loc cc0_stg1_0) ↦{fullShare} outOf c (xstg m c) g)
            ∗ owesE c 0 -∗ Q ⟨⟩)
        -∗ wp frame (wpE (defs₀ (F := F)) 𝒱₀ (c : Thread nD τ) none) Set.univ
          (cc0_body xM (Memref.isWhole_whole _) oM (Memref.isWhole_whole _) wM (Memref.isWhole_whole _) vM (Memref.isWhole_whole _)
            cc0_scratch2 cc0_scratch3) Q) := by
  rw [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton]
  iintro ⟨#HI, #Hlev, Hst, Hdt, Hra, Hsa, Hb, Hbc, Hw, Hv, Hx, Ho, HO⟩ Hk
  ihave Hv := (rows_split c) $$ Hv
  icases Hv with ⟨Hv0, Hv⟩
  ihave Hsig := (each₂ fun d => sigIn_intro c d) $$ [Hst Hv]
  · isplitl [Hst] <;> iassumption
  ihave Hsig := (Entails.of_eq (seven _)) $$ Hsig
  icases Hsig with ⟨Hi0, Hi1, Hi2, Hi3, Hi4, Hi5, Hi6⟩
  ihave Hbc := (Entails.of_eq (seven _)) $$ Hbc
  icases Hbc with ⟨Hc0, Hc1, Hc2, Hc3, Hc4, Hc5, Hc6⟩
  rw [wp_bind]
  iapply (part1 m K c) $$ [Hi0 Hi1 Hi2 Hi3 Hi4 Hi5 HO]
  · isplitr; · iexact HI
    isplitl [Hi0]; · iexact Hi0
    isplitl [Hi1]; · iexact Hi1
    isplitl [Hi2]; · iexact Hi2
    isplitl [Hi3]; · iexact Hi3
    isplitl [Hi4]; · iexact Hi4
    isplitl [Hi5] <;> iassumption
  iintro ⟨Hk0, Hk1, Hk2, Hk3, Hk4, Hk5, HO⟩
  dsimp only
  rw [wp_bind]
  iapply (part2 m K c) $$ [Hi6 Hx Hw Hb Hc0 Hc1 HO]
  · isplitr; · iexact HI
    isplitr; · iexact Hlev
    isplitl [Hi6]; · iexact Hi6
    isplitl [Hx]; · iexact Hx
    isplitl [Hw]; · iexact Hw
    isplitl [Hb]; · iexact Hb
    isplitl [Hc0]; · iexact Hc0
    isplitl [Hc1] <;> iassumption
  iintro ⟨Hk6, Hx, Hw, Hb, HO⟩
  dsimp only
  ihave Hw := (tot_split m c) $$ Hw
  icases Hw with ⟨Hw, Hps⟩
  ihave Hsend := (each₂ fun d => sendIn_intro m c d) $$ [Hdt Hps]
  · isplitl [Hdt] <;> iassumption
  ihave Hsend := (Entails.of_eq (seven _)) $$ Hsend
  icases Hsend with ⟨Hi0, Hi1, Hi2, Hi3, Hi4, Hi5, Hi6⟩
  rw [wp_bind]
  iapply (part3 m K c) $$ [Hb Hc2 Hc3 Hc4 Hc5 Hc6 Hi0 Hi1 Hi2 HO]
  · isplitr; · iexact HI
    isplitr; · iexact Hlev
    isplitl [Hb]; · iexact Hb
    isplitl [Hc2]; · iexact Hc2
    isplitl [Hc3]; · iexact Hc3
    isplitl [Hc4]; · iexact Hc4
    isplitl [Hc5]; · iexact Hc5
    isplitl [Hc6]; · iexact Hc6
    isplitl [Hi0]; · iexact Hi0
    isplitl [Hi1]; · iexact Hi1
    isplitl [Hi2] <;> iassumption
  iintro ⟨Hz, Hr3, Hr4, Hr5, Hr6, Hs0, Hs1, Hs2, HO⟩
  rw [wp_bind]
  iapply (part4 m K c _) $$ [Hr3 Hr4 Hr5 Hr6 Hi3 Hi4 Hi5 Hi6 HO]
  · isplitr; · iexact HI
    isplitl [Hr3]; · iexact Hr3
    isplitl [Hr4]; · iexact Hr4
    isplitl [Hr5]; · iexact Hr5
    isplitl [Hr6]; · iexact Hr6
    isplitl [Hi3]; · iexact Hi3
    isplitl [Hi4]; · iexact Hi4
    isplitl [Hi5]; · iexact Hi5
    isplitl [Hi6] <;> iassumption
  iintro ⟨Hs3, Hs4, Hs5, Hs6, HO⟩
  ihave Hra := (Entails.of_eq (seven _)) $$ Hra
  icases Hra with ⟨Ha0, Ha1, Ha2, Ha3, Ha4, Ha5, Ha6⟩
  rw [wp_bind]
  iapply (part5 m K c _) $$ [Ha0 Ha1 Ha2 Hk0 Hk1 Hk2 HO]
  · isplitr; · iexact HI
    isplitl [Ha0 Hk0]; · iapply (recvIn_intro c 0); isplitl [Ha0] <;> iassumption
    isplitl [Ha1 Hk1]; · iapply (recvIn_intro c 1); isplitl [Ha1] <;> iassumption
    isplitl [Ha2 Hk2]; · iapply (recvIn_intro c 2); isplitl [Ha2] <;> iassumption
    iexact HO
  iintro %g0 %g1 %g2 ⟨%hg, Hy0, Hy1, Hy2, HO⟩
  dsimp only
  rw [wp_bind]
  iapply (part6 m K c _ _ _ _) $$ [Ha3 Ha4 Ha5 Hk3 Hk4 Hk5 HO]
  · isplitr; · iexact HI
    isplitl [Ha3 Hk3]; · iapply (recvIn_intro c 3); isplitl [Ha3] <;> iassumption
    isplitl [Ha4 Hk4]; · iapply (recvIn_intro c 4); isplitl [Ha4] <;> iassumption
    isplitl [Ha5 Hk5]; · iapply (recvIn_intro c 5); isplitl [Ha5] <;> iassumption
    iexact HO
  iintro %g3 %g4 %g5 ⟨%hg', Hy3, Hy4, Hy5, HO⟩
  dsimp only
  ihave Hsa := (Entails.of_eq (seven _)) $$ Hsa
  icases Hsa with ⟨Hb0, Hb1, Hb2, Hb3, Hb4, Hb5, Hb6⟩
  rw [wp_bind]
  iapply (part7 m K c _ _) $$ [Ha6 Hk6 Ho Hb0 Hb1 Hb2 Hb3 Hb4 Hs0 Hs1 Hs2 Hs3 Hs4 HO]
  · isplitr; · iexact HI
    isplitl [Ha6 Hk6]; · iapply (recvIn_intro c 6); isplitl [Ha6] <;> iassumption
    isplitl [Ho]; · iexact Ho
    isplitl [Hb0 Hs0]; · iapply (sentIn_intro m c 0); isplitl [Hb0] <;> iassumption
    isplitl [Hb1 Hs1]; · iapply (sentIn_intro m c 1); isplitl [Hb1] <;> iassumption
    isplitl [Hb2 Hs2]; · iapply (sentIn_intro m c 2); isplitl [Hb2] <;> iassumption
    isplitl [Hb3 Hs3]; · iapply (sentIn_intro m c 3); isplitl [Hb3] <;> iassumption
    isplitl [Hb4 Hs4]; · iapply (sentIn_intro m c 4); isplitl [Hb4] <;> iassumption
    iexact HO
  iintro %g6 ⟨%hg6, Hy6, Ho, Hf0, Hf1, Hf2, Hf3, Hf4, HO⟩
  iapply (tail m K c (hp := ?_)) $$ [Hb5 Hb6 Hs5 Hs6 HO]
  · exact peel (peel (Prog.pure_eq_ret _))
  · isplitr; · iexact HI
    isplitl [Hb5 Hs5]; · iapply (sentIn_intro m c 5); isplitl [Hb5] <;> iassumption
    isplitl [Hb6 Hs6]; · iapply (sentIn_intro m c 6); isplitl [Hb6] <;> iassumption
    iexact HO
  iintro ⟨Hf5, Hf6, HO⟩
  ihave Hy := (Entails.of_eq (seven (fun d => recvOut d c)).symm) $$ [Hy0 Hy1 Hy2 Hy3 Hy4 Hy5 Hy6]
  · isplitl [Hy0]; · iexact Hy0
    isplitl [Hy1]; · iexact Hy1
    isplitl [Hy2]; · iexact Hy2
    isplitl [Hy3]; · iexact Hy3
    isplitl [Hy4]; · iexact Hy4
    isplitl [Hy5] <;> iassumption
  ihave Hf := (Entails.of_eq (seven (fun d => sentOut m d c)).symm) $$ [Hf0 Hf1 Hf2 Hf3 Hf4 Hf5 Hf6]
  · isplitl [Hf0]; · iexact Hf0
    isplitl [Hf1]; · iexact Hf1
    isplitl [Hf2]; · iexact Hf2
    isplitl [Hf3]; · iexact Hf3
    isplitl [Hf4]; · iexact Hf4
    isplitl [Hf5] <;> iassumption
  ihave Hy := (Entails.of_eq (recvOuts c)) $$ Hy
  ihave Hf := (Entails.of_eq (sentOuts m c)) $$ Hf
  icases Hy with ⟨Hyz, Hyr⟩
  icases Hf with ⟨Hfz, Hfp⟩
  iapply Hk $$ %(![g0, g1, g2, g3, g4, g5, g6])
  isplitr
  · ipureintro; intro d; fin_cases d
    · exact hg.1
    · exact hg.2.1
    · exact hg.2.2
    · exact hg'.1
    · exact hg'.2.1
    · exact hg'.2.2
    · exact hg6
  isplitl [Hz]; · iexact Hz
  isplitl [Hyz Hfz]
  · iapply (Entails.of_eq (bigSep_sep' Finset.univ (fun d : Fin 7 => semVal (sendCell d c) 0) (fun d => semVal (recvCell d c) 0)).symm)
    isplitl [Hfz] <;> iassumption
  isplitl [Hw Hfp]
  · iexists (tot m c); iapply (tot_join m c); isplitl [Hw] <;> iassumption
  isplitl [Hv0 Hyr]
  · iapply (rows_join c); isplitl [Hv0] <;> iassumption
  isplitl [Hx]; · iexact Hx
  isplitl [Ho]; · iexact Ho
  iexact HO

end Cert.KernelIdeal.Scan

end
-- ==== Proof.LaunchI.lean ====
/-
  The launch of the sharded running product on its eight devices: what each device starts with, how the tokens and
  credits of the protocol are dealt out, and what the memory holds at the end.
-/
module

public import proofs.«01_k».proof.Proof.WholeI

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The result of one device -/

/-- The kernel's comparison of its position with a distance says whether there is an earlier device there. -/
theorem sge_iff (d : Fin 7) (c : Dev nD) : Scalar.cmpi .sge (wv c) (BitVec.ofNat 32 (d.val + 1)) = 1#1 ↔ got d c := by
  revert d c; decide +kernel

/-- A row that was read counts only if there is an earlier device at its distance. -/
theorem pick (d : Fin 7) (c : Dev nD) {g : Vec F S1x256 .f32} (h : isRow m d c g) (y : Vec F S1x256 .f32) :
    Scalar.select (Scalar.cmpi .sge (wv c) (BitVec.ofNat 32 (d.val + 1))) g y
      = Scalar.select (Scalar.cmpi .sge (wv c) (BitVec.ofNat 32 (d.val + 1))) (tot m (dn d c)) y := by
  by_cases hd : got d c
  · rw [h hd]
  · have hn : ¬ Scalar.cmpi .sge (wv c) (BitVec.ofNat 32 (d.val + 1)) = 1 := fun h' => hd ((sge_iff d c).mp h')
    unfold Scalar.select
    rw [if_neg hn, if_neg hn]

/-- The result of device `c`. -/
def outAt (c : Dev nD) : (cc0_stg1_0 : Ref sig .tc).ty.Contents (Elt F) := outOf c (xstg m c) fun d => tot m (dn d c)

/-- Whatever the rows that were not sent hold, the result is the same. -/
theorem outOf_eq (c : Dev nD) (g : Fin 7 → Vec F S1x256 .f32) (h : ∀ d, isRow m d c (g d)) : outOf c (xstg m c) g = outAt m c := by
  have h5 : k0_pay5 (wv c) (g 0) (g 1) = k0_pay5 (wv c) (tot m (dn 0 c)) (tot m (dn 1 c)) :=
    congrArg₂ (fun a b => mulf (mulf _ a) b) (pick m 0 c (h 0) _) (pick m 1 c (h 1) _)
  have h6 (acc : FVec F S1x256 .f32) :
      k0_pay6 (wv c) acc (g 2) (Scalar.cmpi .sge (wv c) 3#32) (Scalar.ofBits .f32 0x3F800000#32) (g 3) (g 4) (g 5)
        = k0_pay6 (wv c) acc (tot m (dn 2 c)) (Scalar.cmpi .sge (wv c) 3#32) (Scalar.ofBits .f32 0x3F800000#32) (tot m (dn 3 c)) (tot m (dn 4 c)) (tot m (dn 5 c)) :=
    congrArg₂ mulf (congrArg₂ mulf (congrArg₂ mulf (congrArg (mulf acc) (pick m 2 c (h 2) _)) (pick m 3 c (h 3) _)) (pick m 4 c (h 4) _)) (pick m 5 c (h 5) _)
  have h7 (y : FVec F S256x256 .f32) (acc : FVec F S1x256 .f32) : k0_pay7 (wv c) y acc (g 6) = k0_pay7 (wv c) y acc (tot m (dn 6 c)) :=
    congrArg (fun a => mulf y (broadcastTo S256x256 (mulf acc a) broadcasts_S1x256_S256x256)) (pick m 6 c (h 6) _)
  unfold outAt outOf
  rw [h5, h6, h7]

/-! ## What the body is given and gives back -/

/-- The memory and counters at the start. -/
def s₀ : MemSt nD τ sig (Elt F) := ⟨m, fun _ => 0, ρ⟩

/-- Device `c`'s positions on its own cells. -/
def places (c : Dev nD) : sProp 𝕄 :=
  iprop(atPos ER (barCell c) 0 ∅ 0 ∗ (bigSep Finset.univ fun d : Fin 7 => sendAt d c)
    ∗ bigSep Finset.univ fun d : Fin 7 => (atPos ER (recvCell d c) 0 ∅ 0 : sProp 𝕄))
/-- The tokens of the duties device `c` performs: its signals and its sends. -/
def payToks (c : Dev nD) : sProp 𝕄 :=
  iprop((bigSep Finset.univ fun d : Fin 7 => sigTok d c) ∗ bigSep Finset.univ fun d : Fin 7 => sendTok d c)
/-- The invariants, with device `c`'s positions and tokens. -/
def G' (c : Dev nD) : sProp 𝕄 := iprop(∃ K, recs m K ∗ places c ∗ payToks c)
/-- The credits for device `c`'s waits. -/
def waitCreds (c : Dev nD) : sProp 𝕄 :=
  iprop((bigSep Finset.univ fun d : Fin 7 => barCred d c)
    ∗ bigSep Finset.univ fun d : Fin 7 => (cred (tallyAt (recvCell d c) () (if got d c then N else 0)) : sProp 𝕄))
/-- What device `c` starts with. -/
def start (c : Dev nD) : sProp 𝕄 := iprop(G' m c ∗ waitCreds c ∗ levAts L lv)
/-- What the body is given beside the staged arrays. -/
def Φ₀ (c : Dev nD) : sProp 𝕄 := iprop(start m c ∗ stgAny c cc0_scratch0 ∗ stgAny c cc0_scratch1)
/-- What the body gives back beside the staged arrays: all counters at zero, and the scratch buffers. -/
def Φ₁ (c : Dev nD) : sProp 𝕄 :=
  iprop(semVal (barCell c) 0 ∗ (bigSep Finset.univ fun d : Fin 7 => iprop(semVal (sendCell d c) 0 ∗ semVal (recvCell d c) 0))
    ∗ stgAny c cc0_scratch0 ∗ stgAny c cc0_scratch1)

/-- The region's data: the arrays as launched, what the body leaves in each staging buffer, what it is given and gives back,
    and what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Two resources, one for each array. -/
theorem bigSep_W (Φ : Fin cfg0.W → sProp 𝕄) : bigSep Finset.univ Φ = iprop(Φ (0 : Fin 2) ∗ Φ (1 : Fin 2)) := bigSep_W0 Φ
/-- The argument is fetched. -/
theorem fetch_0 (t : Fin cfg0.N) : (cfg0.win (0 : Fin 2)).fetch t = true := by rw [fin_N0 t]; rfl

/-- Owning a whole buffer, spelt out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The barrier's position at the start, as the body counts its waits. -/
theorem bar_start (c : Dev nD) : (atPos ER (barCell c) 0 ∅ 0 : sProp 𝕄) ⊢ barAt m c 0 := by
  unfold barAt
  by_cases h : 0 < 7 - c.val
  · rw [if_pos h]
    iintro H
    iexists ∅
    isplitr; · ipureintro; exact Finset.empty_subset _
    isplitl [H]; · iexact H
    rw [bigSep_empty]; iempintro
  · have h7 : dutySet c (.inl ()) = ∅ := Finset.card_eq_zero.mp (by rw [card_bar]; omega)
    rw [if_neg h, h7, bigSep_empty]
    iintro H
    iexists 0
    isplitr
    · ipureintro; intro r _
      rcases Nat.eq_zero_or_pos r with rfl | hr
      · rw [show barCell c = kcell (c, .inl ()) from rfl, duties_cell, h7]
      · exact duties_later m _ r hr
    isplitl [H]; · iexact H
    iempintro

/-- All that the body starts from. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- All that the body ends with. -/
def bodyPost (c : Dev nD) : sProp 𝕄 :=
  iprop(Φ₁ c ∗ (dats m ρ 0 c).owesAt () t0_0.succ ∗ stg c cc0_stg0_0 (xstg m c) ∗ stg c cc0_stg1_0 (outAt m c))

/-- The body, between what the pipeline holds before and after its one point. -/
theorem sound_body (c : Dev nD) :
    bodyPre m ρ c ⊢ wp frame (wpE (defs₀ (F := F)) 𝒱₀ c none) Set.univ
      (cc0_body xM (Memref.isWhole_whole _) oM (Memref.isWhole_whole _) wM (Memref.isWhole_whole _) vM (Memref.isWhole_whole _)
        cc0_scratch2 cc0_scratch3) (fun _ => bodyPost m ρ c) := by
  unfold bodyPre Φ₀ start G' places payToks waitCreds
  iintro ⟨⟨⟨⟨%K, #HI, ⟨HaB, HaS, HaV⟩, Hst, Hdt⟩, ⟨HcB, HcV⟩, #Hlev⟩, Hw, Hv⟩, Ho, ⟨%d0, %g0, %hg0, Hx⟩, ⟨%d1, %g1, %hg1, Hout⟩⟩
  have hx : g0 = xstg m c := by rw [hg0]; unfold Dat.before; rw [if_pos (fetch_0 t0_0)]; rfl
  subst hx
  unfold Dat.owesAt Pipeline.owesWithin
  icases Ho with ⟨%W, %hW, HO⟩
  ihave HaB := (bar_start m c) $$ HaB
  ihave Hra := (each₂ (C := fun d => recvAt d c) fun d => (by unfold recvAt; exact Entails.rfl)) $$ [HaV HcV]
  · isplitl [HaV]; · iexact HaV
    iexact HcV
  iapply (body m K c) $$ [HaB HaS Hra Hst Hdt HcB Hw Hv Hx Hout HO]
  · isplitr; · iexact HI
    isplitr; · iexact Hlev
    isplitl [Hst]; · iexact Hst
    isplitl [Hdt]; · iexact Hdt
    isplitl [Hra]; · iexact Hra
    isplitl [HaS]; · iexact HaS
    isplitl [HaB]; · iexact HaB
    isplitl [HcB]; · iexact HcB
    isplitl [Hw]; · iexact Hw
    isplitl [Hv]; · iexact Hv
    isplitl [Hx]; · iexact Hx
    isplitl [Hout]; · iexists g1; iexact Hout
    unfold owesE; iexists W; iexact HO
  iintro %g ⟨%hg, HzB, Hz, Hw, Hv, Hx, Hout, HO⟩
  unfold owesE
  icases HO with ⟨%W', HO⟩
  unfold bodyPost Φ₁ Dat.owesAt Pipeline.owesWithin
  isplitl [HzB Hz Hw Hv]
  · isplitl [HzB]; · iexact HzB
    isplitl [Hz]; · iexact Hz
    isplitl [Hw] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; exact outOf_eq m c g hg)
  iexact Hout

attribute [local irreducible] cc0_body outAt xstg O₀ in
set_option maxRecDepth 4000 in
/-- The body, as the launch asks for it. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
      (cc0_body xM (Memref.isWhole_whole _) oM (Memref.isWhole_whole _) wM (Memref.isWhole_whole _) vM (Memref.isWhole_whole _)
        cc0_scratch2 cc0_scratch3) (fun _ => bodyPost m ρ c)
  exact sound_body m ρ c

/-! ## The launch -/

/-- The kernel's own semaphores. -/
abbrev osem : Fin 7 ⊕ Fin 7 → SemLoc sig := fun k => csem (.inr k)
/-- The kernel's own semaphores are different from each other and from those of the staging. -/
theorem ownSemFacts : Pipeline.OwnSemFacts cfg0.spec osem := by decide
/-- Every array is held outright. -/
theorem share_eq (c : Dev nD) (w : Fin cfg0.W) : (dats m ρ 0 c).share w = fullShare := by unfold Dat.share; split <;> rfl

/-- All the cells. -/
def kcells : Finset (GSem nD τ sig) := Finset.univ.map ⟨kcell, kcell_injective⟩
/-- The duties there can be on one device's cells, by the cell's kind and the duty's name: at its barrier one for each
    distance, at the others the one of their own distance. -/
def tk : Fin 7 ⊕ (Fin 7 ⊕ Fin 7) → Kd × Fin 7
  | .inl d => (.inl (), d)
  | .inr (.inl d) => (.inr (.inl d), d)
  | .inr (.inr d) => (.inr (.inr d), d)
/-- Different duties have different names. -/
theorem tk_injective : Function.Injective tk := by decide
/-- The token of a duty on a device. -/
def tokOf (cj : Dev nD × (Fin 7 ⊕ (Fin 7 ⊕ Fin 7))) : GSem nD τ sig × ℕ × Fin 7 := (kcell (cj.1, (tk cj.2).1), 0, (tk cj.2).2)
/-- Different duties have different tokens. -/
theorem tokOf_injective : Function.Injective tokOf := by
  rintro ⟨c, j⟩ ⟨c', j'⟩ h
  have h1 := (kcell_eq_iff _ _ _ _).mp (congrArg Prod.fst h)
  have h2 : (tk j).2 = (tk j').2 := congrArg (fun x : GSem nD τ sig × ℕ × Fin 7 => x.2.2) h
  exact Prod.ext h1.1 (tk_injective (Prod.ext h1.2 h2))
/-- All the tokens. -/
def allToks : Finset (GSem nD τ sig × ℕ × Fin 7) := Finset.univ.map ⟨tokOf, tokOf_injective⟩

/-- The ghost state at the launch: the staging's and the protocol's. -/
def u₀ : UU :=
  (initOf (Pipeline.cells cfgs cellOf_inj) (Pipeline.launchToks cfgs cellOf_inj), initOf kcells allToks)

/-- The duty tokens of device `c`'s own cells. -/
def toks (c : Dev nD) : sProp 𝕄 :=
  iprop((bigSep Finset.univ fun d : Fin 7 => dutyTok ER (barCell c) 0 d) ∗ (bigSep Finset.univ fun d : Fin 7 => dutyTok ER (sendCell d c) 0 d)
    ∗ bigSep Finset.univ fun d : Fin 7 => (dutyTok ER (recvCell d c) 0 d : sProp 𝕄))
/-- What the launch deals device `c`. -/
def G (c : Dev nD) : sProp 𝕄 :=
  iprop((bigSep Finset.univ fun k : Kd => roundState ER (sched m) (kcell (c, k)) 0)
    ∗ (bigSep Finset.univ fun k : Kd => reached ER (kcell (c, k)) 0)
    ∗ (bigSep Finset.univ fun k : Kd => atPos ER (kcell (c, k)) 0 ∅ 0) ∗ toks c)

/-- A resource for every kind of cell: the barrier's, the sends' and the arrivals'. -/
theorem kinds (Φ : Kd → sProp 𝕄) : bigSep Finset.univ Φ
    = iprop(Φ (.inl ()) ∗ (bigSep Finset.univ fun d => Φ (.inr (.inl d))) ∗ bigSep Finset.univ fun d => Φ (.inr (.inr d))) := by
  rw [bigSep_univ_sum, bigSep_univ_sum]
  congr 1
  exact bigSep_singleton

/-- The protocol's ghost state, dealt to the devices. -/
theorem fund_cells : BI.own (ER (F := F) (initOf kcells allToks)) ⊢ (|==> bigSep Finset.univ (G m) : sProp 𝕄) := by
  have hX (Φ : GSem nD τ sig → sProp 𝕄) : bigSep kcells Φ = bigSep Finset.univ fun c : Dev nD => bigSep Finset.univ fun k : Kd => Φ (kcell (c, k)) := by
    unfold kcells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) kcells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

/-- The kernel's own counters at zero: those of the sends and those of the arrivals. -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 7 => semVal (sendCell d c) 0) ∗ bigSep Finset.univ fun d : Fin 7 => semVal (recvCell d c) 0) :=
  bigSep_univ_sum _
/-- The remaining counter at zero: the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every cell's counter at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, kinds]
  iintro ⟨⟨HS, HV⟩, HB⟩
  isplitl [HB]; · iexact HB
  isplitl [HS] <;> iassumption

/-- A device's cells, each with an invariant. -/
def cellsOf (c : Dev nD) : sProp 𝕄 :=
  bigSep Finset.univ fun k : Kd => iprop(∃ κ : ℕ, cellInv ER (sched m) κ (kcell (c, k)) ∗ reached ER (kcell (c, k)) 0)

/-- A cell's counter and state make its invariant. -/
theorem open_cell (c : Dev nD) (k : Kd) :
    iprop((semVal (kcell (c, k)) 0 ∗ roundState ER (sched m) (kcell (c, k)) 0) ∗ reached ER (kcell (c, k)) 0)
      ⊢ |={Set.univ}=> iprop(∃ κ : ℕ, cellInv ER (sched m) κ (kcell (c, k)) ∗ reached ER (kcell (c, k)) 0) := by
  iintro ⟨Hv, Hr⟩
  imod ((Rounds.body_intro ER (sched m) (kcell (c, k))).trans inv_alloc) $$ Hv with ⟨%κ, HI⟩
  imodintro
  iexists κ
  isplitl [HI] <;> iassumption

/-- A device's counters and state make the invariants of its cells; its positions and tokens remain. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(cellsOf m c ∗ places c ∗ toks c) := by
  unfold G
  iintro ⟨Hos, Hus, Hst, Hr, Hat, Htok⟩
  ihave Hv := (sems0_eq (F := F) c) $$ [Hos Hus]
  · isplitl [Hos] <;> iassumption
  imod (show iprop(((bigSep Finset.univ fun k : Kd => semVal (kcell (c, k)) 0) ∗ bigSep Finset.univ fun k : Kd => roundState ER (sched m) (kcell (c, k)) 0)
        ∗ bigSep Finset.univ fun k : Kd => reached ER (kcell (c, k)) 0)
      ⊢ (|={Set.univ}=> cellsOf m c : sProp 𝕄) from by
        rw [← bigSep_sep', ← bigSep_sep']
        exact (bigSep_mono fun k _ => open_cell m c k).trans (bigSep_fupd _ _)) $$ [Hv Hst Hr] with Hinv
  · isplitr [Hr]
    · isplitl [Hv] <;> iassumption
    · iexact Hr
  imodintro
  isplitl [Hinv]; · iexact Hinv
  isplitl [Hat]
  · unfold places sendAt; iapply (Entails.of_eq (kinds fun k : Kd => (atPos ER (kcell (c, k)) 0 ∅ 0 : sProp 𝕄))); iexact Hat
  iexact Htok

/-- Dealing a family over devices and distances by the device at that distance. -/
theorem deal (e : Dev nD × Fin 7 ≃ Dev nD × Fin 7) (Φ : Dev nD × Fin 7 → sProp 𝕄) :
    (bigSep Finset.univ fun c : Dev nD => bigSep Finset.univ fun d : Fin 7 => Φ (c, d))
      = bigSep Finset.univ fun c : Dev nD => bigSep Finset.univ fun d : Fin 7 => Φ (e (c, d)) := by
  rw [← bigSep_univ_prod Φ, bigSep_univ_equiv e Φ, bigSep_univ_prod]

/-- The tokens, each with the device that performs its duty. -/
theorem toks_around : (bigSep Finset.univ fun c : Dev nD => (toks c : sProp 𝕄)) ⊢ bigSep Finset.univ fun c : Dev nD => payToks c := by
  unfold toks payToks sigTok sendTok
  simp only [bigSep_sep']
  rw [deal around (fun p => (dutyTok ER (barCell p.1) 0 p.2 : sProp 𝕄)), deal around.symm (fun p => (dutyTok ER (recvCell p.2 p.1) 0 p.2 : sProp 𝕄))]
  exact Entails.rfl

/-- A step taken for every device, with the invariants at hand. -/
theorem with_recs {Φ Ψ : Dev nD → sProp (MT nD τ sig Unit (Elt F) ℕ UU ℕ)} {R : sProp (MT nD τ sig Unit (Elt F) ℕ UU ℕ)} [BI.Persistent R]
    (h : ∀ c, iprop(R ∗ Φ c) ⊢ Ψ c) : iprop(R ∗ bigSep Finset.univ Φ) ⊢ bigSep Finset.univ Ψ :=
  (sep_mono_left (BI.bigSep_of_persistent Finset.univ R)).trans (each₂ h)

/-- Every device gets the invariants of all cells and the tokens of the duties that it performs. -/
theorem regroup : (bigSep Finset.univ fun c : Dev nD => iprop(cellsOf m c ∗ places c ∗ toks c) : sProp 𝕄) ⊢ bigSep Finset.univ (G' m) := by
  rw [bigSep_sep', bigSep_sep']
  unfold cellsOf
  rw [← bigSep_univ_prod (fun ck : Dev nD × Kd => iprop(∃ κ : ℕ, cellInv ER (sched m) κ (kcell ck) ∗ reached ER (kcell ck) 0))]
  iintro ⟨HI, Hat, Htok⟩
  ihave HK := (BI.bigSep_exists_pi Finset.univ (fun (ck : Dev nD × Kd) (κ : ℕ) => (iprop(cellInv ER (sched m) κ (kcell ck) ∗ reached ER (kcell ck) 0) : sProp 𝕄))) $$ HI
  icases HK with ⟨%K, HI⟩
  ihave Htk := (toks_around (F := F)) $$ Htok
  iapply (with_recs (R := recs m K) (Φ := fun c => iprop(places c ∗ payToks c)) fun c => (show _ ⊢ G' m c from by
    unfold G'; iintro H; iexists K; iexact H))
  isplitl [HI]; · unfold recs; iexact HI
  iapply (Entails.of_eq (bigSep_sep' Finset.univ (fun c : Dev nD => places c) (fun c => payToks c)).symm)
  isplitl [Hat] <;> iassumption

/-- All the devices' semaphores at once, turned into cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credits: what all devices together owe a cell -/

/-- A list of debts to a cell, as a sum. -/
theorem debt_apply (l : List (CellTallies nD τ sig Unit)) (g : GSem nD τ sig) (u : Unit) : debt l g u = (l.map fun a => a g u).sum := by
  induction l with
  | nil => rfl
  | cons a l ih =>
    show debt l g u + a g u = _
    rw [ih, List.map_cons, List.sum_cons, Nat.add_comm]

/-- What a device owes a cell: signals and rows. -/
theorem owed_apply (e : Dev nD) (g : GSem nD τ sig) (u : Unit) :
    O₀ e g u = (∑ d : Fin 7, sigDebt e d g u) + ∑ d : Fin 7, sendDebt e d g u := by
  unfold O₀
  rw [debt_apply, List.map_append, List.sum_append, Fin.sum_univ_seven, Fin.sum_univ_seven]
  simp only [ds, List.map_cons, List.map_nil, List.sum_cons, List.sum_nil]
  omega

/-- Cells of different kinds are different. -/
theorem kind_ne {c c' : Dev nD} {k k' : Kd} (h : k ≠ k') : kcell (c, k) ≠ kcell (c', k') := fun h' => h ((kcell_eq_iff _ _ _ _).mp h').2

/-- What device `e` owes the barrier of `c` at distance `d + 1`. -/
theorem sig_at_bar (e c : Dev nD) (d : Fin 7) : sigDebt e d (barCell c) () = if e = up d c then (if has d c then 1 else 0) else 0 := by
  unfold sigDebt
  rw [tallyAt_apply]
  by_cases h : e = up d c
  · subst h
    rw [dn_up, if_pos ⟨rfl, rfl⟩, if_pos rfl]
    exact if_congr (got_up d c) rfl rfl
  · rw [if_neg h, if_neg]
    rintro ⟨h', -⟩
    exact h (by rw [((kcell_eq_iff c (dn d e) (.inl ()) (.inl ())).mp h').1, up_dn])
/-- No row is owed to a barrier. -/
theorem send_at_bar (e c : Dev nD) (d : Fin 7) : sendDebt e d (barCell c) () = 0 := by
  unfold sendDebt
  rw [tallyAt_apply, if_neg]
  rintro ⟨h', -⟩
  exact kind_ne (k := .inl ()) (k' := .inr (.inr d)) Sum.inl_ne_inr h'
/-- No signal is owed to an arrival. -/
theorem sig_at_recv (e c : Dev nD) (d f : Fin 7) : sigDebt e d (recvCell f c) () = 0 := by
  unfold sigDebt
  rw [tallyAt_apply, if_neg]
  rintro ⟨h', -⟩
  exact kind_ne (k := .inr (.inr f)) (k' := .inl ()) Sum.inr_ne_inl h'
/-- What device `e` owes the arrivals of `c` at distance `f + 1`. -/
theorem send_at_recv (e c : Dev nD) (d f : Fin 7) :
    sendDebt e d (recvCell f c) () = if d = f then (if e = dn f c then (if got f c then N else 0) else 0) else 0 := by
  unfold sendDebt
  rw [tallyAt_apply]
  by_cases hd : d = f
  · subst hd
    rw [if_pos rfl]
    by_cases h : e = dn d c
    · subst h
      rw [up_dn, if_pos ⟨rfl, rfl⟩, if_pos rfl]
      exact if_congr (has_dn d c) rfl rfl
    · rw [if_neg h, if_neg]
      rintro ⟨h', -⟩
      exact h (by rw [((kcell_eq_iff c (up d e) (.inr (.inr d)) (.inr (.inr d))).mp h').1, dn_up])
  · rw [if_neg hd, if_neg]
    rintro ⟨h', -⟩
    exact hd (Sum.inr.inj (Sum.inr.inj ((kcell_eq_iff c (up d e) (.inr (.inr f)) (.inr (.inr d))).mp h').2)).symm

/-- A barrier is owed one signal by every later device. -/
theorem owed_bar (c : Dev nD) : ∑ e : Dev nD, O₀ e (barCell c) () = ∑ d : Fin 7, if has d c then 1 else 0 := by
  rw [Finset.sum_congr rfl fun e _ => owed_apply e (barCell c) ()]
  simp only [sig_at_bar, send_at_bar, Finset.sum_const_zero, Nat.add_zero]
  rw [Finset.sum_comm]
  exact Finset.sum_congr rfl fun d _ => by rw [Finset.sum_ite_eq' Finset.univ (up d c), if_pos (Finset.mem_univ _)]
/-- An arrival is owed one row if there is an earlier device at its distance. -/
theorem owed_recv (c : Dev nD) (f : Fin 7) : ∑ e : Dev nD, O₀ e (recvCell f c) () = if got f c then N else 0 := by
  rw [Finset.sum_congr rfl fun e _ => owed_apply e (recvCell f c) ()]
  simp only [sig_at_recv, send_at_recv, Finset.sum_const_zero, Nat.zero_add]
  rw [Finset.sum_congr rfl fun e _ => Finset.sum_ite_eq' Finset.univ f fun _ => if e = dn f c then (if got f c then N else 0) else 0]
  simp only [Finset.mem_univ, if_true]
  rw [Finset.sum_ite_eq' Finset.univ (dn f c), if_pos (Finset.mem_univ _)]

/-- The launch's credit for a cell is what all devices owe it. -/
theorem launch_tally (g : GSem nD τ sig) :
    tallyOn g (launchCredit (Pipeline.owing O₀) 0 g) = (tallyAt g () (∑ e : Dev nD, O₀ e g ()) : CellTallies nD τ sig Unit) := by
  unfold tallyAt; refine congrArg _ (Finsupp.ext fun u => ?_); cases u
  rw [Pipeline.launchCredit_owing, Finsupp.single_eq_same]

/-- Debts to one cell add up. -/
theorem tallyAt_sum (g : GSem nD τ sig) (s : Finset (Fin 7)) (n : Fin 7 → ℕ) :
    (∑ d ∈ s, tallyAt g () (n d) : CellTallies nD τ sig Unit) = tallyAt g () (∑ d ∈ s, n d) := by
  induction s using Finset.induction_on with
  | empty => rw [Finset.sum_empty, Finset.sum_empty, tallyAt_zero]
  | insert a s ha ih => rw [Finset.sum_insert ha, Finset.sum_insert ha, ih, tallyAt_add]

/-- The launch's credits for the cells of the kernel. -/
theorem cell_creds (c : Dev nD) : (Pipeline.launchCred O₀ c : sProp 𝕄)
    ⊢ iprop((cred (tallyOn (barCell c) (launchCredit (Pipeline.owing O₀) 0 (barCell c))) : sProp 𝕄)
      ∗ (bigSep Finset.univ fun d : Fin 7 => (cred (tallyOn (sendCell d c) (launchCredit (Pipeline.owing O₀) 0 (sendCell d c))) : sProp 𝕄))
      ∗ bigSep Finset.univ fun d : Fin 7 => (cred (tallyOn (recvCell d c) (launchCredit (Pipeline.owing O₀) 0 (recvCell d c))) : sProp 𝕄)) := by
  have h := kinds (F := F) fun k : Kd => (cred (tallyOn (kcell (c, k)) (launchCredit (Pipeline.owing O₀) 0 (kcell (c, k)))) : sProp 𝕄)
  have hm := bigSep_map (s := Finset.univ) (⟨csem, csem_injective⟩ : Kd ↪ SemLoc sig)
    (Φ := fun sm => (cred (tallyOn ((c.tc : Thread nD τ), sm) (launchCredit (Pipeline.owing O₀) 0 ((c.tc : Thread nD τ), sm))) : sProp 𝕄))
  have h' : (Pipeline.launchCred O₀ c : sProp 𝕄) ⊢ _ := (bigSep_subset (Finset.subset_univ _)).trans (Entails.of_eq hm)
  exact h'.trans (Entails.of_eq h)

/-- Each device's waits are all paid for. -/
theorem creds (c : Dev nD) : (Pipeline.launchCred O₀ c : sProp 𝕄) ⊢ waitCreds c := by
  unfold waitCreds barCred
  iintro H
  ihave H := (cell_creds c) $$ H
  icases H with ⟨HB, -, HV⟩
  isplitl [HB]
  · rw [← Pipeline.cred_finsetSum Finset.univ (fun d : Fin 7 => (tallyAt (barCell c) () (if has d c then 1 else 0) : CellTallies nD τ sig Unit)),
      tallyAt_sum, ← owed_bar, ← launch_tally]
    iexact HB
  · iapply (each fun d => (Entails.of_eq (show cred (tallyOn (recvCell d c) (launchCredit (Pipeline.owing O₀) 0 (recvCell d c)))
        = (cred (tallyAt (recvCell d c) () (if got d c then N else 0)) : sProp 𝕄) by rw [launch_tally, owed_recv])))
    iexact HV

/-! ### The conditions of the launch -/

/-- The launch gives every device what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- With its scratch buffers, that is what the body is given. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

/-- What the body gives back is what the launch takes: all counters at zero, and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [bigSep_sep']

/-- The staging may wait for its copies whatever is owed. -/
theorem waits (c : Dev nD) : (levAts L lv : sProp 𝕄) ⊢ Pipeline.cellsWaits cfgs (dats m ρ) () 0 c :=
  Pipeline.cellsWaits_intro cfgs (dats m ρ) () 0 c fun w s t =>
    may_wait_stage c _ (by fin_cases w <;> fin_cases s <;> decide) _ (by
      rcases t with ⟨_ | _, ht⟩
      · exact Or.inl rfl
      · exact Or.inr rfl)

/-! ### The run -/

/-- The contents of the arrays at the end. -/
def finalA (c : Dev nD) (w : Fin cfg0.W) : Buf (Elt F) ((cfg0.win w).arr.view.loc (c : Thread nD τ)) := (dats m ρ 0 c).arrAt w cfg0.N

/-- The arrays of every device end with those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values and from any memory with zero counters, every weakly fair execution ends;
    at the end each device's result holds the computed contents, its argument is unchanged and every semaphore is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is what it was. -/
theorem finalA_x (c : Dev nD) : finalA m ρ c (0 : Fin 2) = m (win0_0.arr.view.loc (c : Thread nD τ)) :=
  (dats (F := F) m ρ 0 c).arrAt_in (0 : Fin 2) rfl _

end Cert.KernelIdeal.Scan

end
-- ==== Proof.Products.lean ====
/- Products of rows over the extended reals: what halving a block, doubling a window and joining blocks of 256 rows make of
   the products down a column. -/
module

public import Idealize.ShloMosaic.Lib.Layout
public import Idealize.ShloMosaic.Lib.IdealHost
public import Idealize.ShloMosaic.Lib.ValueIdx
public import Idealize.ShloMosaic.Lib.Pipeline.Value

@[expose] public section

noncomputable section

namespace Cert.Products

open Idealize.ShloMosaic

/-- Column `j` of an array of `n` rows of 256 numbers, as a sequence: one beyond the last row. -/
def col {n : ℕ} {φ : FTy} (v : FVec Ideal ⟨2, ![n, 256]⟩ φ) (j : Fin 256) (i : ℕ) : EReal :=
  if h : i < n then v (Shape.pair ⟨i, h⟩ j) else 1

/-- Within the array, the sequence is the array. -/
theorem col_of_lt {n : ℕ} {φ : FTy} (v : FVec Ideal ⟨2, ![n, 256]⟩ φ) (j : Fin 256) {i : ℕ} (h : i < n) :
    col v j i = v (Shape.pair ⟨i, h⟩ j) := dif_pos h

/-- Rows `o` onwards of an array, at row `i`: row `o + i` of the array. -/
theorem slice_row {n k o : ℕ} {φ : FTy} (v : FVec Ideal ⟨2, ![n, 256]⟩ φ)
    (hs : (⟨2, ![n, 256]⟩ : Shape).Slices ![o, 0] ⟨2, ![k, 256]⟩) (j : Fin 256) {i : ℕ} (h : i < k) (h' : o + i < n) :
    extractStridedSlice ⟨2, ![k, 256]⟩ ![o, 0] v hs (Shape.pair ⟨i, h⟩ j) = v (Shape.pair ⟨o + i, h'⟩ j) :=
  extractStridedSlice_apply _ v hs _ _ fun a => by
    match a with
    | ⟨0, _⟩ => rfl
    | ⟨1, _⟩ => exact (Nat.zero_add _).symm

/-- Multiplying the upper half of an array into its lower half keeps the product of every column. -/
theorem halve {n h : ℕ} (hn : n = h + h) (v : FVec Ideal ⟨2, ![n, 256]⟩ .f32)
    (a : (⟨2, ![n, 256]⟩ : Shape).Slices ![0, 0] ⟨2, ![h, 256]⟩) (b : (⟨2, ![n, 256]⟩ : Shape).Slices ![h, 0] ⟨2, ![h, 256]⟩)
    (j : Fin 256) :
    ∏ i ∈ Finset.range h, col (mulf (extractStridedSlice ⟨2, ![h, 256]⟩ ![0, 0] v a)
        (extractStridedSlice ⟨2, ![h, 256]⟩ ![h, 0] v b)) j i
      = ∏ i ∈ Finset.range n, col v j i := by
  subst hn
  rw [Finset.prod_range_add, ← Finset.prod_mul_distrib]
  refine Finset.prod_congr rfl fun i hi => ?_
  have hi := Finset.mem_range.mp hi
  rw [col_of_lt _ j hi, col_of_lt v j (by omega : i < h + h), col_of_lt v j (by omega : h + i < h + h), ValueIdx.mulf_apply,
    slice_row v a j hi (by omega), slice_row v b j hi (by omega)]
  simp only [Nat.zero_add]

/-- The product of the last `n` members of a sequence up to member `i`. -/
def win (f : ℕ → EReal) (n i : ℕ) : EReal := ∏ k ∈ Finset.Ico (i + 1 - n) (i + 1), f k

/-- The window of one is the member. -/
theorem win_one (f : ℕ → EReal) (i : ℕ) : win f 1 i = f i := by
  unfold win; rw [Nat.add_sub_cancel]; simp

/-- A window no shorter than the sequence so far is the whole product. -/
theorem win_all (f : ℕ → EReal) {n i : ℕ} (h : i < n) : win f n i = ∏ k ∈ Finset.range (i + 1), f k := by
  unfold win; rw [Nat.sub_eq_zero_of_le (by omega), Finset.range_eq_Ico]

/-- A window joined to the one before it: a window of twice the length. -/
theorem win_double (f : ℕ → EReal) (s i : ℕ) :
    win f s i * (if i < s then 1 else win f s (i - s)) = win f (s + s) i := by
  unfold win
  split
  · rw [mul_one, Nat.sub_eq_zero_of_le (by omega : i + 1 ≤ s), Nat.sub_eq_zero_of_le (by omega : i + 1 ≤ s + s)]
  · rw [mul_comm, show i - s + 1 = i + 1 - s by omega, show i + 1 - s - s = i + 1 - (s + s) by omega]
    exact Finset.prod_Ico_consecutive f (by omega) (by omega)

/-- One step of the scan: a block holding windows of `s` rows, multiplied by itself moved down `s` rows with ones above,
    holds windows of twice as many. -/
theorem scan_step {s t : ℕ} (hst : s + t = 256) {f : ℕ → EReal} {j : Fin 256} {v : FVec Ideal ⟨2, ![256, 256]⟩ .f32}
    (a : (⟨2, ![256, 256]⟩ : Shape).Slices ![0, 0] ⟨2, ![t, 256]⟩)
    (hc : Shape.Concatenates [⟨2, ![s, 256]⟩, ⟨2, ![t, 256]⟩] ⟨2, ![256, 256]⟩ 0)
    (hv : ∀ i, i < 256 → col v j i = win f s i) (i : ℕ) (hi : i < 256) :
    col (mulf v (concatenate ⟨2, ![256, 256]⟩ 0 [⟨⟨2, ![s, 256]⟩, broadcast ⟨2, ![s, 256]⟩ (Scalar.ofBits .f32 0x3F800000#32)⟩,
        ⟨⟨2, ![t, 256]⟩, extractStridedSlice ⟨2, ![t, 256]⟩ ![0, 0] v a⟩] hc)) j i = win f (s + s) i := by
  rw [← win_double, col_of_lt _ j hi, ValueIdx.mulf_apply, ← col_of_lt v j hi, hv i hi]
  congr 1
  by_cases h : i < s
  · rw [if_pos h]
    refine (concatenate_pair_apply_left 0 _ _ hc _ rfl (Shape.pair ⟨i, h⟩ j) fun b => ?_).trans Ideal.ofBits_one_f32
    match b with
    | ⟨0, _⟩ => rfl
    | ⟨1, _⟩ => rfl
  · rw [if_neg h, ← hv (i - s) (by omega), col_of_lt v j (by omega : i - s < 256)]
    refine (concatenate_pair_apply_right 0 _ _ hc _ rfl rfl (Shape.pair ⟨i - s, (by omega : i - s < t)⟩ j) (fun b hb => ?_) ?_).trans ?_
    · match b with
      | ⟨0, _⟩ => exact absurd rfl hb
      | ⟨1, _⟩ => rfl
    · exact Nat.sub_add_cancel (by omega : s ≤ i)
    · rw [slice_row v a j _ (by omega : 0 + (i - s) < 256)]
      simp only [Nat.zero_add]

/-- The products of `n` blocks of `b` members, multiplied together, are the product of all their members. -/
theorem prod_blocks (f : ℕ → EReal) (b n : ℕ) :
    ∏ e ∈ Finset.range n, ∏ i ∈ Finset.range b, f (e * b + i) = ∏ k ∈ Finset.range (n * b), f k := by
  induction n with
  | zero => simp
  | succ n ih => rw [Finset.prod_range_succ, ih, Nat.succ_mul, Finset.prod_range_add]

/-- … and with the first `r` members of the next block: the product of all members so far. -/
theorem prod_blocks_add (f : ℕ → EReal) (b n r : ℕ) :
    (∏ i ∈ Finset.range r, f (n * b + i)) * ∏ e ∈ Finset.range n, ∏ i ∈ Finset.range b, f (e * b + i)
      = ∏ k ∈ Finset.range (n * b + r), f k := by
  rw [prod_blocks, mul_comm, Finset.prod_range_add]

end Cert.Products

end
-- ==== Proof.ValueI.lean ====
/- The value of the scan kernel over the extended reals: row `i` of device `c`'s result is the product, column by column, of all
   the rows of the devices before it and of its own rows up to `i`. -/
module

public import proofs.«01_k».proof.Proof.LaunchI
public import proofs.«01_k».proof.Proof.Products
public import Idealize.ShloMosaic.Lib.Pipeline.ValueKit.Geometry

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

open Cert.Products

variable (m : (ℓ : Loc nD τ sig) → Buf (Elt Ideal) ℓ) (ρ : Dev nD → PrngReg)

/-! ## The staged arrays -/

/-- The staged input is the argument. -/
theorem xstg_eq (c : Dev nD) : xstg m c = m ((c : Thread nD τ).loc main_arg0) :=
  Memref.read_access_unit_zero (Elt Ideal) main_arg0 (funext fun a => by fin_cases a <;> decide) (fun a => by fin_cases a <;> decide) _

/-- The result array ends as the body left its staging buffer. -/
theorem finalA_out (c : Dev nD) : finalA m ρ c (1 : Fin 2) = outAt m c := by
  refine (dats m ρ 0 c).arrAt_eq_of_after_last (1 : Fin 2) (0 : Fin 1) ⟨by decide +kernel, fun t _ => Fin.fin_one_eq_zero t, fun a => by fin_cases a <;> decide⟩ _ fun j => ?_
  rfl

/-! ## The products of one block -/

/-- The widened block is the block. -/
theorem col_pay1 (x : Vec Ideal S256x256 .bf16) (j : Fin 256) (i : ℕ) :
    col (k0_pay1 x) j i = col (φ := .bf16) (n := 256) x j i := by
  unfold k0_pay1
  rw [shapeCast_self]
  rfl

/-- What a device sends: the product of each column of its block. -/
theorem pay2_col (x : Vec Ideal S256x256 .bf16) (j : Fin 256) :
    k0_pay2 x (Shape.pair (0 : Fin 1) j) = ∏ i ∈ Finset.range 256, col (φ := .bf16) (n := 256) x j i := by
  unfold k0_pay2
  rw [shapeCast_self]
  simp only [← col_pay1 x]
  rw [← halve (h := 128) rfl (k0_pay1 x) slices_S256x256_o0_0_S128x256 slices_S256x256_o128_0_S128x256 j,
    ← halve (h := 64) rfl _ slices_S128x256_o0_0_S64x256 slices_S128x256_o64_0_S64x256 j,
    ← halve (h := 32) rfl _ slices_S64x256_o0_0_S32x256 slices_S64x256_o32_0_S32x256 j,
    ← halve (h := 16) rfl _ slices_S32x256_o0_0_S16x256 slices_S32x256_o16_0_S16x256 j,
    ← halve (h := 8) rfl _ slices_S16x256_o0_0_S8x256 slices_S16x256_o8_0_S8x256 j,
    ← halve (h := 4) rfl _ slices_S8x256_o0_0_S4x256 slices_S8x256_o4_0_S4x256 j,
    ← halve (h := 2) rfl _ slices_S4x256_o0_0_S2x256 slices_S4x256_o2_0_S2x256 j,
    ← halve (h := 1) rfl _ slices_S2x256_o0_0_S1x256 slices_S2x256_o1_0_S1x256 j,
    Finset.prod_range_one, col_of_lt _ j Nat.one_pos]
  rfl

/-- The scan of a block: each row the product of the rows up to it. -/
theorem pay34_col (v : FVec Ideal S256x256 .f32) (j : Fin 256) (i : ℕ) (hi : i < 256) :
    col (k0_pay4 (k0_pay3 v)) j i = ∏ k ∈ Finset.range (i + 1), col v j k := by
  have h1 : ∀ i, i < 256 → col v j i = win (col v j) 1 i := fun i _ => (win_one _ i).symm
  have h64 : ∀ i, i < 256 → col (k0_pay3 v) j i = win (col v j) 64 i :=
    scan_step (s := 32) rfl slices_S256x256_o0_0_S224x256 concatenates_S32x256_S224x256_S256x256_d0 <|
    scan_step (s := 16) rfl slices_S256x256_o0_0_S240x256 concatenates_S16x256_S240x256_S256x256_d0 <|
    scan_step (s := 8) rfl slices_S256x256_o0_0_S248x256 concatenates_S8x256_S248x256_S256x256_d0 <|
    scan_step (s := 4) rfl slices_S256x256_o0_0_S252x256 concatenates_S4x256_S252x256_S256x256_d0 <|
    scan_step (s := 2) rfl slices_S256x256_o0_0_S254x256 concatenates_S2x256_S254x256_S256x256_d0 <|
    scan_step (s := 1) rfl slices_S256x256_o0_0_S255x256 concatenates_S1x256_S255x256_S256x256_d0 h1
  have h256 : ∀ i, i < 256 → col (k0_pay4 (k0_pay3 v)) j i = win (col v j) 256 i :=
    scan_step (s := 128) rfl slices_S256x256_o0_0_S128x256 concatenates_S128x256_S128x256_S256x256_d0 <|
    scan_step (s := 64) rfl slices_S256x256_o0_0_S192x256 concatenates_S64x256_S192x256_S256x256_d0 h64
  rw [h256 i hi, win_all _ hi]

/-! ## The carry -/

/-- A row counted only if there is an earlier device at its distance, at one column. -/
theorem select_apply (d : Fin 7) (c : Dev nD) (g : Vec Ideal S1x256 .f32) (p : S1x256.Idx) :
    Scalar.select (Scalar.cmpi .sge (wv c) (BitVec.ofNat 32 (d.val + 1))) g (broadcast S1x256 (Scalar.ofBits (F := Ideal) .f32 0x3F800000#32)) p
      = if got d c then g p else (1 : EReal) := by
  unfold Scalar.select
  by_cases hd : got d c
  · have hp : Scalar.cmpi .sge (wv c) (BitVec.ofNat 32 (d.val + 1)) = 1 := (sge_iff d c).mpr hd
    rw [if_pos hd, if_pos hp]
  · have hn : ¬ Scalar.cmpi .sge (wv c) (BitVec.ofNat 32 (d.val + 1)) = 1 := fun h' => hd ((sge_iff d c).mp h')
    rw [if_neg hd, if_neg hn]
    exact Ideal.ofBits_one_f32

/-- The seven distances reach every earlier device once. -/
theorem prod_earlier (T : ℕ → EReal) (c : Dev nD) :
    ∏ d : Fin 7, (if got d c then T (dn d c).val else 1) = ∏ e ∈ Finset.range c.val, T e := by
  rw [Fin.prod_univ_seven]
  fin_cases c <;> simp [got, dn, Finset.prod_range_succ] <;> ac_rfl

/-- A row of the result: the row of the scan of the block times the counted rows received. -/
theorem outOf_apply (c : Dev nD) (x : Vec Ideal S256x256 .bf16) (g : Fin 7 → Vec Ideal S1x256 .f32) (i j : Fin 256) :
    outOf c x g (Shape.pair i j) = k0_pay4 (k0_pay3 (k0_pay1 x)) (Shape.pair i j)
      * ∏ d : Fin 7, (if got d c then g d (Shape.pair (0 : Fin 1) j) else (1 : EReal)) := by
  have hb (acc : FVec Ideal S1x256 .f32) :
      broadcastTo S256x256 acc broadcasts_S1x256_S256x256 (Shape.pair i j) = acc (Shape.pair (0 : Fin 1) j) :=
    broadcastTo_apply _ _ _ _ fun a => by
      match a with
      | ⟨0, _⟩ => rfl
      | ⟨1, _⟩ => rfl
  refine Eq.trans ?_ (congrArg (k0_pay4 (k0_pay3 (k0_pay1 x)) (Shape.pair i j) * ·)
    (Finset.prod_congr rfl fun d _ => select_apply d c (g d) (Shape.pair (0 : Fin 1) j)))
  rw [Fin.prod_univ_seven]
  unfold outOf k0_pay7 k0_pay6 k0_pay5
  rw [ValueIdx.mulf_apply, hb]
  simp only [ValueIdx.mulf_apply]
  rw [show (broadcast S1x256 (Scalar.ofBits .f32 0x3F800000#32) : FVec Ideal S1x256 .f32) (Shape.pair (0 : Fin 1) j) = (1 : EReal)
    from Ideal.ofBits_one_f32, one_mul]
  rfl

/-- Column `j` of the argument over all devices. -/
def argCol (j : Fin 256) (k : ℕ) : EReal :=
  if h : k / 256 < 8 then col (φ := .bf16) (n := 256) (m (((⟨k / 256, h⟩ : Dev nD) : Thread nD τ).loc main_arg0)) j (k % 256) else 1

/-- It is the devices' blocks one after another. -/
theorem argCol_block (c : Dev nD) (j : Fin 256) {i : ℕ} (hi : i < 256) :
    argCol m j (c.val * 256 + i) = col (φ := .bf16) (n := 256) (m ((c : Thread nD τ).loc main_arg0)) j i := by
  have h1 : (c.val * 256 + i) / 256 = c.val := by omega
  have h2 : (c.val * 256 + i) % 256 = i := by omega
  unfold argCol
  rw [h2]
  generalize (c.val * 256 + i) / 256 = q at h1
  subst h1
  exact dif_pos (show c.val < 8 from c.isLt)

/-- Row `i` of device `c`'s result, column by column: the product of all rows of the whole argument up to it. -/
theorem outAt_apply (c : Dev nD) (i j : Fin 256) :
    @Eq EReal (outAt m c (Shape.pair i j)) (∏ k ∈ Finset.range (c.val * 256 + i.val + 1), argCol m j k) := by
  have hs : k0_pay4 (k0_pay3 (k0_pay1 (xstg m c))) (Shape.pair i j)
      = ∏ k ∈ Finset.range (i.val + 1), argCol m j (c.val * 256 + k) := by
    refine (col_of_lt (k0_pay4 (k0_pay3 (k0_pay1 (xstg m c)))) j i.isLt).symm.trans ?_
    rw [pay34_col _ j _ i.isLt]
    refine Finset.prod_congr rfl fun k hk => ?_
    rw [col_pay1, xstg_eq, argCol_block m c j (by have := Finset.mem_range.mp hk; omega)]
  have ht (e : Dev nD) : @Eq EReal (tot m e (Shape.pair (0 : Fin 1) j)) (∏ k ∈ Finset.range 256, argCol m j (e.val * 256 + k)) := by
    unfold tot
    rw [pay2_col, xstg_eq]
    exact Finset.prod_congr rfl fun k hk => (argCol_block m e j (Finset.mem_range.mp hk)).symm
  unfold outAt
  rw [outOf_apply, hs]
  simp only [ht]
  rw [prod_earlier (fun e => ∏ k ∈ Finset.range 256, argCol m j (e * 256 + k)), prod_blocks_add]
  rfl

end Cert.KernelIdeal.Scan

end
-- ==== Proof.RefI.lean ====
/- The value of the reference over the extended reals: row `r` of its result is the product, column by column, of the rows of
   its argument up to `r`. -/
module

public import proofs.«01_k».proof.Proof.Gen.ReferenceIdeal.Run
public import proofs.«01_k».proof.Proof.Products
public import Idealize.ShloMosaic.Lib.DynamicIndex
public import Idealize.ShloMosaic.Lib.Pointwise.ShapeOpsCore

@[expose] public section

noncomputable section

namespace Cert.ReferenceIdeal.Scan

open Cert.ReferenceIdeal Cert.ReferenceIdeal.Gen Cert.ReferenceIdeal.Value Cert.Products
open Idealize.ShloMosaic Idealize.ShloMosaic.TcCoe Idealize.ShloMosaic.Tactic
open Idealize.ShloMosaic.StableHlo
open Idealize.SL.Sem

/-! ## One row read and one row written -/

/-- Row `k` read out of an array and made a vector. -/
theorem row_read (X : FVec Ideal S2048x256 .f32) (start : Fin 2 → Int) {k : ℕ} (hk : k < 2048) (h0 : start 0 = (k : Int))
    (h1 : start 1 = 0) (p : S256.Idx) :
    shapeCast S256 (Host.dynamicSlice S1x256 X start sliceFits_S2048x256_S1x256) shapeCasts_S1x256_S256 p
      = X (Shape.pair ⟨k, hk⟩ (p 0)) := by
  have hoff : S2048x256.Slices ![k, 0] S1x256 := ⟨rfl, fun a => by
    match a with
    | ⟨0, _⟩ => exact hk
    | ⟨1, _⟩ => exact le_refl 256⟩
  rw [shapeCast_dropUnit_apply, Host.dynamicSlice_eq_extractStridedSlice S1x256 X start ![k, 0] _ hoff fun a => by
    match a with
    | ⟨0, _⟩ => exact h0
    | ⟨1, _⟩ => exact h1]
  refine extractStridedSlice_apply _ _ _ _ _ fun a => ?_
  match a with
  | ⟨0, _⟩ => rfl
  | ⟨1, _⟩ => exact (Nat.zero_add _).symm

/-- An array with a vector written over row `k`, at one index. -/
theorem row_write (Y : FVec Ideal S2048x256 .f32) (v : FVec Ideal S256 .f32) (start : Fin 2 → Int) {k : ℕ} (hk : k < 2048)
    (h0 : start 0 = (k : Int)) (h1 : start 1 = 0) (r : Fin 2048) (j : Fin 256) :
    Host.dynamicUpdateSlice Y (broadcastInDim S1x256 ![1] bcast_S256_S1x256_1 v) start updateFits_S2048x256_S1x256 (Shape.pair r j)
      = if r.val = k then v (ValueIdx.ix1 j) else Y (Shape.pair r j) := by
  have c0 : Host.clampedStart S2048x256 S1x256 rfl start 0 = k := Host.clampedStart_of_le (s := S2048x256) (t := S1x256) rfl start 0 k h0 hk
  have c1 : Host.clampedStart S2048x256 S1x256 rfl start 1 = 0 := Host.clampedStart_of_le (s := S2048x256) (t := S1x256) rfl start 1 0 h1 (le_refl 256)
  rw [Host.dynamicUpdateSlice_apply]
  by_cases h : r.val = k
  · rw [if_pos h, dif_pos fun a => by
      match a with
      | ⟨0, _⟩ => exact ⟨c0.le.trans h.ge, (Nat.lt_succ_of_le h.le).trans_eq (congrArg (· + 1) c0.symm)⟩
      | ⟨1, _⟩ => exact ⟨c1.le.trans (Nat.zero_le _), (Nat.lt_add_left 0 j.isLt).trans_eq (congrArg (· + 256) c1.symm)⟩]
    refine broadcastInDim_apply _ _ _ _ _ fun a => ?_
    match a with
    | ⟨0, _⟩ => show j.val = j.val - Host.clampedStart S2048x256 S1x256 rfl start 1; rw [c1, Nat.sub_zero]
  · rw [if_neg h, dif_neg fun hin => ?_]
    have h' : _ ≤ r.val ∧ r.val < _ + 1 := hin 0
    rw [c0] at h'
    omega

/-! ## The loop -/

variable (m : (ℓ : Loc nD τ sig) → Buf (Elt Ideal) ℓ) (ρ : Dev nD → PrngReg)

/-- The argument's one array. -/
abbrev arg (c : Dev nD) : FVec Ideal S2048x256 .bf16 := m ((c.tc : Thread nD τ).loc main_arg0)

/-- The carried buffers before trip `k`, over the rows `f` of the argument column by column: the array, the counter, the
    product so far and the rows written. -/
structure At (X : FVec Ideal S2048x256 .f32) (k : ℕ) (V : Valuation τ sig (Elt Ideal)) : Prop where
  array : V (Proc.devRef .tc main_v3_0) = X
  counter : V (Proc.devRef .tc main_v3_1) = fun _ => BitVec.ofNat 32 k
  acc : ∀ p : S256.Idx, @Eq EReal (V (Proc.devRef .tc main_v3_2) p) (∏ q ∈ Finset.range k, col X (p 0) q)
  rows : ∀ (r : Fin 2048) (j : Fin 256), r.val < k →
    @Eq EReal (V (Proc.devRef .tc main_v3_3) (Shape.pair r j)) (∏ q ∈ Finset.range (r.val + 1), col X j q)

/-- The loop is entered with nothing multiplied and no row written. -/
theorem at_entry (c : Dev nD) : At (fun i => arg m c i) 0 (entryContents preI m c) where
  array := by
    simp only [entryContents, afterL_cons, afterL_nil]
    after_reads_simp
    rfl
  counter := ctr_entry m c
  acc p := by
    have h : entryContents preI m c (Proc.devRef .tc main_v3_2)
        = broadcastInDim S256 ![] bcast_S_S256 (constant S_ .f32 (0x3F800000#32) : FVec Ideal S_ .f32) := by
      simp only [entryContents, afterL_cons, afterL_nil]
      after_reads_simp
      rfl
    rw [h, Finset.prod_range_zero]
    exact Ideal.ofBits_one_f32
  rows r j h := absurd h (Nat.not_lt_zero _)

/-- One trip multiplies one more row in and writes the product as that row. -/
theorem at_step {X : FVec Ideal S2048x256 .f32} {k : ℕ} {V : Valuation τ sig (Elt Ideal)} (h : At X k V) (hk : k < 2048) :
    At X (k + 1) (STEP V) := by
  have h0 : ((![V (Proc.devRef .tc main_v3_1), constantI S_ 32 0#32] : Fin 2 → (⟨S_, .i32⟩ : BufTy).Contents (Elt Ideal)) 0
      (Shape.Idx.first h_S_)).toInt = (k : Int) := by
    show (V (Proc.devRef .tc main_v3_1) (Shape.Idx.first h_S_)).toInt = _
    rw [h.counter]
    show (BitVec.ofNat 32 k).toInt = _
    rw [BitVec.toInt_eq_toNat_cond, BitVec.toNat_ofNat, Nat.mod_eq_of_lt (by omega), if_pos (by omega)]
  have hacc (p : S256.Idx) : @Eq EReal (res_main_while0b_v5 V p) (∏ q ∈ Finset.range (k + 1), col X (p 0) q) := by
    unfold res_main_while0b_v5
    rw [Finset.prod_range_succ, ← h.acc p, col_of_lt X (p 0) hk]
    refine congrArg (HMul.hMul (show EReal from V (Proc.devRef .tc main_v3_2) p)) ?_
    rw [h.array]
    exact row_read X _ hk h0 rfl p
  refine ⟨(STEP_main_v3_0 V).trans h.array, (STEP_main_v3_1 V).trans ?_, fun p => ?_, fun r j hr => ?_⟩
  · unfold step_main_v3_1
    rw [h.counter, BitVec.ofNat_add]
    rfl
  · rw [STEP_main_v3_2]
    exact hacc p
  · rw [STEP_main_v3_3]
    refine (row_write (V (Proc.devRef .tc main_v3_3)) (res_main_while0b_v5 V) _ hk h0 rfl r j).trans ?_
    by_cases hrk : r.val = k
    · rw [if_pos hrk, hrk]
      exact hacc _
    · rw [if_neg hrk]
      exact h.rows r j (by omega)

/-- After any number of trips. -/
theorem at_iterate (c : Dev nD) : ∀ k, k ≤ 2048 → At (fun i => arg m c i) k (STEP^[k] (entryContents preI m c))
  | 0, _ => at_entry m c
  | k + 1, h => by
    rw [Function.iterate_succ_apply']
    exact at_step (at_iterate c k (by omega)) h

/-- The result of the reference. -/
def refOut (c : Dev nD) : FVec Ideal S2048x256 .f32 := (STEP^[2048] (entryContents preI m c)) (Proc.devRef .tc main_v3_3)

/-- Row `r` of the reference's result, column by column: the product of all rows of its argument up to it. -/
theorem refOut_apply (c : Dev nD) (r : Fin 2048) (j : Fin 256) :
    refOut m c (Shape.pair r j) = ∏ q ∈ Finset.range (r.val + 1), col (arg m c) j q :=
  (at_iterate m c 2048 (le_refl _)).rows r j r.isLt

end Cert.ReferenceIdeal.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.ValueI
public import proofs.«01_k».proof.Proof.RefI
public import Idealize.ShloMosaic.Adequacy
public import Idealize.ShloMosaic.Init

@[expose] public section

noncomputable section

namespace Cert.Proof

open Idealize.ShloMosaic Idealize.SL.Sem Cert.Kernel

/-- The kernel over floats as words of bits terminates from every memory, leaves its argument on every device as it was and
    every semaphore at zero. -/
theorem frame_kernel : Cert.quiescent_Kernel := fun m ρ _ =>
  (θ_run Cert.Kernel.defs _ _).mono
    (fun _ h => ⟨fun c => (h.1 c (0 : Fin 2)).trans (Cert.Kernel.Scan.finalA_x m ρ c), h.2⟩)
    (Cert.Kernel.Scan.run_main (F := Bits) m ρ)

/-- The same of the kernel over the extended reals. -/
theorem frame_kernelIdeal : Cert.quiescent_KernelIdeal := fun m ρ _ =>
  (θ_run Cert.KernelIdeal.defs _ _).mono
    (fun _ h => ⟨fun c => (h.1 c (0 : Fin 2)).trans (Cert.KernelIdeal.Scan.finalA_x m ρ c), h.2⟩)
    (Cert.KernelIdeal.Scan.run_main (F := Ideal) m ρ)

/-- The reference terminates and leaves its argument as it was; it has no semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where every device's argument is its block of the reference's, a column of the one is a column of the other. -/
theorem argCol_eq (m : (ℓ : Loc Cert.KernelIdeal.nD Cert.KernelIdeal.τ Cert.KernelIdeal.sig) → Buf (Elt Ideal) ℓ)
    (X : FVec Ideal ⟨2, ![2048, 256]⟩ .bf16) (ht : Layout.Tiles ⟨2, ![256, 256]⟩ ⟨2, ![2048, 256]⟩ 0 8)
    (hagree : ∀ c : Dev Cert.KernelIdeal.nD, m ((c.tc : Thread Cert.KernelIdeal.nD Cert.KernelIdeal.τ).loc Cert.KernelIdeal.main_arg0)
      = Layout.block ⟨2, ![256, 256]⟩ ⟨2, ![2048, 256]⟩ 0 8 c X ht)
    (j : Fin 256) {k : ℕ} (hk : k < 2048) : Cert.KernelIdeal.Scan.argCol m j k = Cert.Products.col X j k := by
  have hq : k / 256 < 8 := by omega
  have hr : k % 256 < 256 := by omega
  unfold Cert.KernelIdeal.Scan.argCol
  rw [dif_pos hq, hagree, Cert.Products.col_of_lt _ j hr, Cert.Products.col_of_lt X j hk, Layout.block_apply]
  refine congrArg X ((Layout.idx_rows_pair ht ⟨k / 256, hq⟩ ⟨k % 256, hr⟩ j).trans ?_)
  have hk' : k / 256 * 256 + k % 256 = k := by omega
  funext b
  apply Fin.ext
  match b with
  | ⟨0, _⟩ => exact hk'
  | ⟨1, _⟩ => rfl

/-- Over the extended reals every device's result is its block of the reference's: both hold, in every row, the product of
    all rows of the whole argument up to it. -/
theorem algebraic : Cert.algebraic_KernelIdeal_ReferenceIdeal := by
  intro m ρ m' ρ' _ hagree
  refine ⟨Cert.ReferenceIdeal.Scan.refOut m' 0, ?_, ?_⟩
  · refine (θ_run Cert.KernelIdeal.defs _ _).mono
      (fun _ h c => ⟨(h.1 c (1 : Fin 2)).trans ?_, (h.1 c (0 : Fin 2)).trans (Cert.KernelIdeal.Scan.finalA_x m ρ c)⟩)
      (Cert.KernelIdeal.Scan.run_main (F := Ideal) m ρ)
    rw [Cert.KernelIdeal.Scan.finalA_out]
    funext i
    rw [Layout.block_apply, ← Shape.pair_eta i, Layout.idx_rows_pair]
    refine (Cert.KernelIdeal.Scan.outAt_apply m c (i 0) (i 1)).trans ?_
    refine Eq.trans ?_ (Cert.ReferenceIdeal.Scan.refOut_apply m' 0 _ _).symm
    refine Finset.prod_congr rfl fun k hk => argCol_eq m _ _ hagree _ ?_
    have h1 := Finset.mem_range.mp hk
    have h2 : (i 0).val < 256 := (i 0).isLt
    have h3 : c.val < 8 := c.isLt
    omega
  · exact (θ_run Cert.ReferenceIdeal.defs _ _).mono (fun _ h => h 0) (Cert.ReferenceIdeal.Value.run (F := Ideal) m' ρ')

/-- Every claim of this certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
